-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S64x576x768 : Shape := ⟨3, ![64, 576, 768]⟩
abbrev S64x77x768 : Shape := ⟨3, ![64, 77, 768]⟩
abbrev S64x768 : Shape := ⟨2, ![64, 768]⟩
abbrev S64 : Shape := ⟨1, ![64]⟩
abbrev S768x64 : Shape := ⟨2, ![768, 64]⟩
abbrev S768 : Shape := ⟨1, ![768]⟩
abbrev S1x16x64 : Shape := ⟨3, ![1, 16, 64]⟩
abbrev S192x64 : Shape := ⟨2, ![192, 64]⟩
abbrev S192 : Shape := ⟨1, ![192]⟩
abbrev S64x64 : Shape := ⟨2, ![64, 64]⟩
abbrev S_ : Shape := ⟨0, ![]⟩
abbrev S64x576x64 : Shape := ⟨3, ![64, 576, 64]⟩
abbrev S1x1x64 : Shape := ⟨3, ![1, 1, 64]⟩
abbrev S64x77x64 : Shape := ⟨3, ![64, 77, 64]⟩
abbrev S64x1x64 : Shape := ⟨3, ![64, 1, 64]⟩
abbrev S64x576 : Shape := ⟨2, ![64, 576]⟩
abbrev S64x576x1 : Shape := ⟨3, ![64, 576, 1]⟩
abbrev S64x1 : Shape := ⟨2, ![64, 1]⟩
abbrev S64x1x1 : Shape := ⟨3, ![64, 1, 1]⟩
abbrev S64x1x576 : Shape := ⟨3, ![64, 1, 576]⟩
abbrev S64x576x576 : Shape := ⟨3, ![64, 576, 576]⟩

class Facts : Prop where
  transposes_S64x768_S768x64_1_0 : S64x768.Transposes [1, 0] S768x64
  bcast_S64_S1x1x64_2 : S64.BroadcastsInDim S1x1x64 (![2] : Fin 1 → Fin S1x1x64.rank)
  bcast_S1x1x64_S64x576x64_0_1_2 : S1x1x64.BroadcastsInDim S64x576x64 (![0, 1, 2] : Fin 3 → Fin S64x576x64.rank)
  bcast_S_S64x576x64 : S_.BroadcastsInDim S64x576x64 (![] : Fin 0 → Fin S64x576x64.rank)
  slices_S64x77x768_S64x77x64_0_0_0 : S64x77x768.Slices ![0, 0, 0] S64x77x64
  slices_S64x77x64_S64x1x64_0_0_0 : S64x77x64.Slices ![0, 0, 0] S64x1x64
  reducesTo_S64x576x64_S64x576_d2 : S64x576x64.ReducesTo [2] S64x576
  h_S_ : 0 < S_.numel
  bcast_S64x576_S64x576x1_0_1 : S64x576.BroadcastsInDim S64x576x1 (![0, 1] : Fin 2 → Fin S64x576x1.rank)
  bcast_S_S64x576x1 : S_.BroadcastsInDim S64x576x1 (![] : Fin 0 → Fin S64x576x1.rank)
  bcast_S64x576x1_S64x576x64_0_1_2 : S64x576x1.BroadcastsInDim S64x576x64 (![0, 1, 2] : Fin 3 → Fin S64x576x64.rank)
  reducesTo_S64x1x64_S64x1_d2 : S64x1x64.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S64x1x1_S64x1x64_0_1_2 : S64x1x1.BroadcastsInDim S64x1x64 (![0, 1, 2] : Fin 3 → Fin S64x1x64.rank)
  shapeCasts_S64x576x1_S64x576 : S64x576x1.ShapeCasts S64x576
  bcast_S64x576_S64x1x576_0_2 : S64x576.BroadcastsInDim S64x1x576 (![0, 2] : Fin 2 → Fin S64x1x576.rank)
  bcast_S64x1x576_S64x576x576_0_1_2 : S64x1x576.BroadcastsInDim S64x576x576 (![0, 1, 2] : Fin 3 → Fin S64x576x576.rank)
  bcast_S64x576x1_S64x576x576_0_1_2 : S64x576x1.BroadcastsInDim S64x576x576 (![0, 1, 2] : Fin 3 → Fin S64x576x576.rank)
  reducesTo_S64x576x576_S64x576_d2 : S64x576x576.ReducesTo [2] S64x576
  bcast_S_S64x576x768 : S_.BroadcastsInDim S64x576x768 (![] : Fin 0 → Fin S64x576x768.rank)
  bcast_S_S64x77x768 : S_.BroadcastsInDim S64x77x768 (![] : Fin 0 → Fin S64x77x768.rank)
  bcast_S_S64x768 : S_.BroadcastsInDim S64x768 (![] : Fin 0 → Fin S64x768.rank)
  bcast_S_S64 : S_.BroadcastsInDim S64 (![] : Fin 0 → Fin S64.rank)
  bcast_S_S768x64 : S_.BroadcastsInDim S768x64 (![] : Fin 0 → Fin S768x64.rank)
  bcast_S_S768 : S_.BroadcastsInDim S768 (![] : Fin 0 → Fin S768.rank)
  bcast_S_S1x16x64 : S_.BroadcastsInDim S1x16x64 (![] : Fin 0 → Fin S1x16x64.rank)
  bcast_S_S192x64 : S_.BroadcastsInDim S192x64 (![] : Fin 0 → Fin S192x64.rank)
  bcast_S_S192 : S_.BroadcastsInDim S192 (![] : Fin 0 → Fin S192.rank)
  bcast_S_S64x64 : S_.BroadcastsInDim S64x64 (![] : Fin 0 → Fin S64x64.rank)
  bcast_S_S64x576 : S_.BroadcastsInDim S64x576 (![] : Fin 0 → Fin S64x576.rank)
  dot_S64x576x768_S768x64_S64x576x64_2_0_01_1_n_n_wf : DotDims.WF S64x576x768 S768x64 S64x576x64 [2] [0] [0, 1] [1] [] []
  dot_S64x576x64_S64x1x64_S64x576x1_2_2_1_1_0_0_wf : DotDims.WF S64x576x64 S64x1x64 S64x576x1 [2] [2] [1] [1] [0] [0]

variable [Facts]

def dot_S64x576x768_S768x64_S64x576x64_2_0_01_1_n_n : DotDims S64x576x768 S768x64 S64x576x64 where
  lhsContracting := [2]
  rhsContracting := [0]
  lhsNonContracting := [0, 1]
  rhsNonContracting := [1]
  lhsBatch := []
  rhsBatch := []
  wf := dot_S64x576x768_S768x64_S64x576x64_2_0_01_1_n_n_wf
def dot_S64x576x64_S64x1x64_S64x576x1_2_2_1_1_0_0 : DotDims S64x576x64 S64x1x64 S64x576x1 where
  lhsContracting := [2]
  rhsContracting := [2]
  lhsNonContracting := [1]
  rhsNonContracting := [1]
  lhsBatch := [0]
  rhsBatch := [0]
  wf := dot_S64x576x64_S64x1x64_S64x576x1_2_2_1_1_0_0_wf
def fn_part4 {F : FTy → Type} [FloatOps F] (main_arg11 : FVec F S64 .f32) (main_arg12 : FVec F S64 .f32) (main_arg13 : FVec F S_ .f32) (main_v38 : FVec F S64x576 .f32) (main_v43 : FVec F S64x576 .f32) (main_v46 : IVec S64x576x768 1) (main_v49 : IVec S64x77x768 1) (main_v52 : IVec S64x768 1) (main_v55 : IVec S64 1) (main_v58 : IVec S768x64 1) (main_v61 : IVec S768 1) (main_v64 : IVec S1x16x64 1) (main_v67 : IVec S192x64 1) (main_v70 : IVec S192 1) (main_v73 : IVec S64x64 1) (main_v76 : IVec S64 1) : IVec S64x576x768 1 × IVec S64x77x768 1 × IVec S64x768 1 × IVec S64 1 × IVec S768x64 1 × IVec S768 1 × IVec S1x16x64 1 × IVec S192x64 1 × IVec S192 1 × IVec S64x64 1 × IVec S64 1 × IVec S64 1 × IVec S64 1 × IVec S_ 1 × IVec S64x576 1 :=
  let main_v77 : FVec F S64 .f32 := Host.absf main_arg11
  let main_cst_18 : FVec F S_ .f32 := constant S_ .f32 0x7F800000#32
  let main_v78 : FVec F S64 .f32 := broadcastInDim S64 ![] bcast_S_S64 main_cst_18
  let main_v79 : IVec S64 1 := cmpf .olt main_v77 main_v78
  let main_v80 : FVec F S64 .f32 := Host.absf main_arg12
  let main_cst_19 : FVec F S_ .f32 := constant S_ .f32 0x7F800000#32
  let main_v81 : FVec F S64 .f32 := broadcastInDim S64 ![] bcast_S_S64 main_cst_19
  let main_v82 : IVec S64 1 := cmpf .olt main_v80 main_v81
  let main_v83 : FVec F S_ .f32 := Host.absf main_arg13
  let main_cst_20 : FVec F S_ .f32 := constant S_ .f32 0x7F800000#32
  let main_v84 : IVec S_ 1 := cmpf .olt main_v83 main_cst_20
  let main_cst_21 : FVec F S_ .f32 := constant S_ .f32 0x42800000#32
  let main_v85 : FVec F S64x576 .f32 := broadcastInDim S64x576 ![] bcast_S_S64x576 main_cst_21
  let main_v86 : IVec S64x576 1 := cmpf .oge main_v38 main_v85
  let main_cst_22 : FVec F S_ .f32 := constant S_ .f32 0x3F800000#32
  let main_v87 : FVec F S64x576 .f32 := broadcastInDim S64x576 ![] bcast_S_S64x576 main_cst_22
  let main_v88 : IVec S64x576 1 := cmpf .oeq main_v43 main_v87
  let main_v89 : IVec S64x576 1 := ori main_v86 main_v88
  (main_v46, main_v49, main_v52, main_v55, main_v58, main_v61, main_v64, main_v67, main_v70, main_v73, main_v76, main_v79, main_v82, main_v84, main_v89)

def fn_part3 {F : FTy → Type} [FloatOps F] (main_arg5 : FVec F S768 .f32) (main_arg6 : FVec F S1x16x64 .f32) (main_arg7 : FVec F S192x64 .f32) (main_arg8 : FVec F S192 .f32) (main_arg9 : FVec F S64x64 .f32) (main_arg10 : FVec F S64 .f32) (main_arg11 : FVec F S64 .f32) (main_arg12 : FVec F S64 .f32) (main_arg13 : FVec F S_ .f32) (main_v38 : FVec F S64x576 .f32) (main_v43 : FVec F S64x576 .f32) (main_v46 : IVec S64x576x768 1) (main_v49 : IVec S64x77x768 1) (main_v52 : IVec S64x768 1) (main_v55 : IVec S64 1) (main_v58 : IVec S768x64 1) : IVec S64x576x768 1 × IVec S64x77x768 1 × IVec S64x768 1 × IVec S64 1 × IVec S768x64 1 × IVec S768 1 × IVec S1x16x64 1 × IVec S192x64 1 × IVec S192 1 × IVec S64x64 1 × IVec S64 1 × IVec S64 1 × IVec S64 1 × IVec S_ 1 × IVec S64x576 1 :=
  let main_v59 : FVec F S768 .f32 := Host.absf main_arg5
  let main_cst_12 : FVec F S_ .f32 := constant S_ .f32 0x7F800000#32
  let main_v60 : FVec F S768 .f32 := broadcastInDim S768 ![] bcast_S_S768 main_cst_12
  let main_v61 : IVec S768 1 := cmpf .olt main_v59 main_v60
  let main_v62 : FVec F S1x16x64 .f32 := Host.absf main_arg6
  let main_cst_13 : FVec F S_ .f32 := constant S_ .f32 0x7F800000#32
  let main_v63 : FVec F S1x16x64 .f32 := broadcastInDim S1x16x64 ![] bcast_S_S1x16x64 main_cst_13
  let main_v64 : IVec S1x16x64 1 := cmpf .olt main_v62 main_v63
  let main_v65 : FVec F S192x64 .f32 := Host.absf main_arg7
  let main_cst_14 : FVec F S_ .f32 := constant S_ .f32 0x7F800000#32
  let main_v66 : FVec F S192x64 .f32 := broadcastInDim S192x64 ![] bcast_S_S192x64 main_cst_14
  let main_v67 : IVec S192x64 1 := cmpf .olt main_v65 main_v66
  let main_v68 : FVec F S192 .f32 := Host.absf main_arg8
  let main_cst_15 : FVec F S_ .f32 := constant S_ .f32 0x7F800000#32
  let main_v69 : FVec F S192 .f32 := broadcastInDim S192 ![] bcast_S_S192 main_cst_15
  let main_v70 : IVec S192 1 := cmpf .olt main_v68 main_v69
  let main_v71 : FVec F S64x64 .f32 := Host.absf main_arg9
  let main_cst_16 : FVec F S_ .f32 := constant S_ .f32 0x7F800000#32
  let main_v72 : FVec F S64x64 .f32 := broadcastInDim S64x64 ![] bcast_S_S64x64 main_cst_16
  let main_v73 : IVec S64x64 1 := cmpf .olt main_v71 main_v72
  let main_v74 : FVec F S64 .f32 := Host.absf main_arg10
  let main_cst_17 : FVec F S_ .f32 := constant S_ .f32 0x7F800000#32
  let main_v75 : FVec F S64 .f32 := broadcastInDim S64 ![] bcast_S_S64 main_cst_17
  let main_v76 : IVec S64 1 := cmpf .olt main_v74 main_v75
  fn_part4 (F := F) main_arg11 main_arg12 main_arg13 main_v38 main_v43 main_v46 main_v49 main_v52 main_v55 main_v58 main_v61 main_v64 main_v67 main_v70 main_v73 main_v76

def fn_part2 {F : FTy → Type} [FloatOps F] (main_arg0 : FVec F S64x576x768 .f32) (main_arg1 : FVec F S64x77x768 .f32) (main_arg2 : FVec F S64x768 .f32) (main_arg3 : FVec F S64 .f32) (main_arg4 : FVec F S768x64 .f32) (main_arg5 : FVec F S768 .f32) (main_arg6 : FVec F S1x16x64 .f32) (main_arg7 : FVec F S192x64 .f32) (main_arg8 : FVec F S192 .f32) (main_arg9 : FVec F S64x64 .f32) (main_arg10 : FVec F S64 .f32) (main_arg11 : FVec F S64 .f32) (main_arg12 : FVec F S64 .f32) (main_arg13 : FVec F S_ .f32) (main_v38 : FVec F S64x576 .f32) (main_v39 : FVec F S64x576x576 .f32) (main_v40 : FVec F S64x576x576 .f32) : IVec S64x576x768 1 × IVec S64x77x768 1 × IVec S64x768 1 × IVec S64 1 × IVec S768x64 1 × IVec S768 1 × IVec S1x16x64 1 × IVec S192x64 1 × IVec S192 1 × IVec S64x64 1 × IVec S64 1 × IVec S64 1 × IVec S64 1 × IVec S_ 1 × IVec S64x576 1 :=
  let main_v41 : IVec S64x576x576 1 := cmpf .oeq main_v39 main_v40
  let main_v42 : FVec F S64x576x576 .f32 := uitofp .f32 main_v41
  let main_cst_6 : FVec F S_ .f32 := constant S_ .f32 0x00000000#32
  let main_v43 : FVec F S64x576 .f32 := (fun x v => Host.reduceAdd x v reducesTo_S64x576x576_S64x576_d2 h_S_) main_v42 main_cst_6
  let main_v44 : FVec F S64x576x768 .f32 := Host.absf main_arg0
  let main_cst_7 : FVec F S_ .f32 := constant S_ .f32 0x7F800000#32
  let main_v45 : FVec F S64x576x768 .f32 := broadcastInDim S64x576x768 ![] bcast_S_S64x576x768 main_cst_7
  let main_v46 : IVec S64x576x768 1 := cmpf .olt main_v44 main_v45
  let main_v47 : FVec F S64x77x768 .f32 := Host.absf main_arg1
  let main_cst_8 : FVec F S_ .f32 := constant S_ .f32 0x7F800000#32
  let main_v48 : FVec F S64x77x768 .f32 := broadcastInDim S64x77x768 ![] bcast_S_S64x77x768 main_cst_8
  let main_v49 : IVec S64x77x768 1 := cmpf .olt main_v47 main_v48
  let main_v50 : FVec F S64x768 .f32 := Host.absf main_arg2
  let main_cst_9 : FVec F S_ .f32 := constant S_ .f32 0x7F800000#32
  let main_v51 : FVec F S64x768 .f32 := broadcastInDim S64x768 ![] bcast_S_S64x768 main_cst_9
  let main_v52 : IVec S64x768 1 := cmpf .olt main_v50 main_v51
  let main_v53 : FVec F S64 .f32 := Host.absf main_arg3
  let main_cst_10 : FVec F S_ .f32 := constant S_ .f32 0x7F800000#32
  let main_v54 : FVec F S64 .f32 := broadcastInDim S64 ![] bcast_S_S64 main_cst_10
  let main_v55 : IVec S64 1 := cmpf .olt main_v53 main_v54
  let main_v56 : FVec F S768x64 .f32 := Host.absf main_arg4
  let main_cst_11 : FVec F S_ .f32 := constant S_ .f32 0x7F800000#32
  let main_v57 : FVec F S768x64 .f32 := broadcastInDim S768x64 ![] bcast_S_S768x64 main_cst_11
  let main_v58 : IVec S768x64 1 := cmpf .olt main_v56 main_v57
  fn_part3 (F := F) main_arg5 main_arg6 main_arg7 main_arg8 main_arg9 main_arg10 main_arg11 main_arg12 main_arg13 main_v38 main_v43 main_v46 main_v49 main_v52 main_v55 main_v58

def fn_part1 {F : FTy → Type} [FloatOps F] (main_arg0 : FVec F S64x576x768 .f32) (main_arg1 : FVec F S64x77x768 .f32) (main_arg2 : FVec F S64x768 .f32) (main_arg3 : FVec F S64 .f32) (main_arg4 : FVec F S768x64 .f32) (main_arg5 : FVec F S768 .f32) (main_arg6 : FVec F S1x16x64 .f32) (main_arg7 : FVec F S192x64 .f32) (main_arg8 : FVec F S192 .f32) (main_arg9 : FVec F S64x64 .f32) (main_arg10 : FVec F S64 .f32) (main_arg11 : FVec F S64 .f32) (main_arg12 : FVec F S64 .f32) (main_arg13 : FVec F S_ .f32) (main_v11 : FVec F S64x576x64 .f32) (main_v13 : FVec F S64x1x64 .f32) (main_v19 : FVec F S64x576x1 .f32) : IVec S64x576x768 1 × IVec S64x77x768 1 × IVec S64x768 1 × IVec S64 1 × IVec S768x64 1 × IVec S768 1 × IVec S1x16x64 1 × IVec S192x64 1 × IVec S192 1 × IVec S64x64 1 × IVec S64 1 × IVec S64 1 × IVec S64 1 × IVec S_ 1 × IVec S64x576 1 :=
  let main_v20 : FVec F S64x576x64 .f32 := broadcastInDim S64x576x64 ![0, 1, 2] bcast_S64x576x1_S64x576x64_0_1_2 main_v19
  let main_v21 : FVec F S64x576x64 .f32 := Host.divf main_v11 main_v20
  let main_v22 : FVec F S64x1x64 .f32 := mulf main_v13 main_v13
  let main_cst_3 : FVec F S_ .f32 := constant S_ .f32 0x00000000#32
  let main_v23 : FVec F S64x1 .f32 := (fun x v => Host.reduceAdd x v reducesTo_S64x1x64_S64x1_d2 h_S_) main_v22 main_cst_3
  let main_v24 : FVec F S64x1x1 .f32 := broadcastInDim S64x1x1 ![0, 1] bcast_S64x1_S64x1x1_0_1 main_v23
  let main_v25 : FVec F S64x1x1 .f32 := Host.sqrt main_v24
  let main_cst_4 : FVec F S_ .f32 := constant S_ .f32 0x2B8CBCCC#32
  let main_v26 : FVec F S64x1x1 .f32 := broadcastInDim S64x1x1 ![] bcast_S_S64x1x1 main_cst_4
  let main_v27 : FVec F S64x1x1 .f32 := maximumf main_v25 main_v26
  let main_v28 : FVec F S64x1x64 .f32 := broadcastInDim S64x1x64 ![0, 1, 2] bcast_S64x1x1_S64x1x64_0_1_2 main_v27
  let main_v29 : FVec F S64x1x64 .f32 := Host.divf main_v13 main_v28
  let main_v30 : FVec F S64x576x1 .f32 := (fun l r => Host.dotGeneral dot_S64x576x64_S64x1x64_S64x576x1_2_2_1_1_0_0 none l r) main_v21 main_v29
  let main_v31 : FVec F S64x576 .f32 := shapeCast S64x576 main_v30 shapeCasts_S64x576x1_S64x576
  let main_v32 : FVec F S64x576x1 .f32 := broadcastInDim S64x576x1 ![0, 1] bcast_S64x576_S64x576x1_0_1 main_v31
  let main_v33 : FVec F S64x1x576 .f32 := broadcastInDim S64x1x576 ![0, 2] bcast_S64x576_S64x1x576_0_2 main_v31
  let main_v34 : FVec F S64x576x576 .f32 := broadcastInDim S64x576x576 ![0, 1, 2] bcast_S64x1x576_S64x576x576_0_1_2 main_v33
  let main_v35 : FVec F S64x576x576 .f32 := broadcastInDim S64x576x576 ![0, 1, 2] bcast_S64x576x1_S64x576x576_0_1_2 main_v32
  let main_v36 : IVec S64x576x576 1 := cmpf .ogt main_v34 main_v35
  let main_v37 : FVec F S64x576x576 .f32 := uitofp .f32 main_v36
  let main_cst_5 : FVec F S_ .f32 := constant S_ .f32 0x00000000#32
  let main_v38 : FVec F S64x576 .f32 := (fun x v => Host.reduceAdd x v reducesTo_S64x576x576_S64x576_d2 h_S_) main_v37 main_cst_5
  let main_v39 : FVec F S64x576x576 .f32 := broadcastInDim S64x576x576 ![0, 1, 2] bcast_S64x1x576_S64x576x576_0_1_2 main_v33
  let main_v40 : FVec F S64x576x576 .f32 := broadcastInDim S64x576x576 ![0, 1, 2] bcast_S64x576x1_S64x576x576_0_1_2 main_v32
  fn_part2 (F := F) main_arg0 main_arg1 main_arg2 main_arg3 main_arg4 main_arg5 main_arg6 main_arg7 main_arg8 main_arg9 main_arg10 main_arg11 main_arg12 main_arg13 main_v38 main_v39 main_v40

def fn {F : FTy → Type} [FloatOps F] (main_arg0 : FVec F S64x576x768 .f32) (main_arg1 : FVec F S64x77x768 .f32) (main_arg2 : FVec F S64x768 .f32) (main_arg3 : FVec F S64 .f32) (main_arg4 : FVec F S768x64 .f32) (main_arg5 : FVec F S768 .f32) (main_arg6 : FVec F S1x16x64 .f32) (main_arg7 : FVec F S192x64 .f32) (main_arg8 : FVec F S192 .f32) (main_arg9 : FVec F S64x64 .f32) (main_arg10 : FVec F S64 .f32) (main_arg11 : FVec F S64 .f32) (main_arg12 : FVec F S64 .f32) (main_arg13 : FVec F S_ .f32) : IVec S64x576x768 1 × IVec S64x77x768 1 × IVec S64x768 1 × IVec S64 1 × IVec S768x64 1 × IVec S768 1 × IVec S1x16x64 1 × IVec S192x64 1 × IVec S192 1 × IVec S64x64 1 × IVec S64 1 × IVec S64 1 × IVec S64 1 × IVec S_ 1 × IVec S64x576 1 :=
  let main_v0 : FVec F S768x64 .f32 := (transpose S768x64 [1, 0] · transposes_S64x768_S768x64_1_0) main_arg2
  let main_v1 : FVec F S64x576x64 .f32 := (fun l r => Host.dotGeneral dot_S64x576x768_S768x64_S64x576x64_2_0_01_1_n_n none l r) main_arg0 main_v0
  let main_v2 : FVec F S1x1x64 .f32 := broadcastInDim S1x1x64 ![2] bcast_S64_S1x1x64_2 main_arg3
  let main_v3 : FVec F S64x576x64 .f32 := broadcastInDim S64x576x64 ![0, 1, 2] bcast_S1x1x64_S64x576x64_0_1_2 main_v2
  let main_v4 : FVec F S64x576x64 .f32 := addf main_v1 main_v3
  let main_cst : FVec F S_ .f32 := constant S_ .f32 0x3F000000#32
  let main_v5 : FVec F S64x576x64 .f32 := broadcastInDim S64x576x64 ![] bcast_S_S64x576x64 main_cst
  let main_v6 : FVec F S64x576x64 .f32 := mulf main_v5 main_v4
  let main_v7 : FVec F S64x576x64 .f32 := Host.negf main_v4
  let main_cst_0 : FVec F S_ .f32 := constant S_ .f32 0x3F3504F3#32
  let main_v8 : FVec F S64x576x64 .f32 := broadcastInDim S64x576x64 ![] bcast_S_S64x576x64 main_cst_0
  let main_v9 : FVec F S64x576x64 .f32 := mulf main_v7 main_v8
  let main_v10 : FVec F S64x576x64 .f32 := Host.erfc main_v9
  let main_v11 : FVec F S64x576x64 .f32 := mulf main_v6 main_v10
  let main_v12 : FVec F S64x77x64 .f32 := (extractStridedSlice S64x77x64 ![0, 0, 0] · slices_S64x77x768_S64x77x64_0_0_0) main_arg1
  let main_v13 : FVec F S64x1x64 .f32 := (extractStridedSlice S64x1x64 ![0, 0, 0] · slices_S64x77x64_S64x1x64_0_0_0) main_v12
  let main_v14 : FVec F S64x576x64 .f32 := mulf main_v11 main_v11
  let main_cst_1 : FVec F S_ .f32 := constant S_ .f32 0x00000000#32
  let main_v15 : FVec F S64x576 .f32 := (fun x v => Host.reduceAdd x v reducesTo_S64x576x64_S64x576_d2 h_S_) main_v14 main_cst_1
  let main_v16 : FVec F S64x576x1 .f32 := broadcastInDim S64x576x1 ![0, 1] bcast_S64x576_S64x576x1_0_1 main_v15
  let main_v17 : FVec F S64x576x1 .f32 := Host.sqrt main_v16
  let main_cst_2 : FVec F S_ .f32 := constant S_ .f32 0x2B8CBCCC#32
  let main_v18 : FVec F S64x576x1 .f32 := broadcastInDim S64x576x1 ![] bcast_S_S64x576x1 main_cst_2
  let main_v19 : FVec F S64x576x1 .f32 := maximumf main_v17 main_v18
  fn_part1 (F := F) main_arg0 main_arg1 main_arg2 main_arg3 main_arg4 main_arg5 main_arg6 main_arg7 main_arg8 main_arg9 main_arg10 main_arg11 main_arg12 main_arg13 main_v11 main_v13 main_v19
-- ==== Kernel.lean ====
abbrev S64x576x768 : Shape := ⟨3, ![64, 576, 768]⟩
abbrev S64x77x768 : Shape := ⟨3, ![64, 77, 768]⟩
abbrev S64x768 : Shape := ⟨2, ![64, 768]⟩
abbrev S64 : Shape := ⟨1, ![64]⟩
abbrev S768x64 : Shape := ⟨2, ![768, 64]⟩
abbrev S768 : Shape := ⟨1, ![768]⟩
abbrev S1x16x64 : Shape := ⟨3, ![1, 16, 64]⟩
abbrev S192x64 : Shape := ⟨2, ![192, 64]⟩
abbrev S192 : Shape := ⟨1, ![192]⟩
abbrev S64x64 : Shape := ⟨2, ![64, 64]⟩
abbrev S_ : Shape := ⟨0, ![]⟩
abbrev S64x1x64 : Shape := ⟨3, ![64, 1, 64]⟩
abbrev S1x64 : Shape := ⟨2, ![1, 64]⟩
abbrev S1x768 : Shape := ⟨2, ![1, 768]⟩
abbrev S16x64 : Shape := ⟨2, ![16, 64]⟩
abbrev S1x1 : Shape := ⟨2, ![1, 1]⟩
abbrev S8x576x768 : Shape := ⟨3, ![8, 576, 768]⟩
abbrev S8x1x64 : Shape := ⟨3, ![8, 1, 64]⟩
abbrev S4608x768 : Shape := ⟨2, ![4608, 768]⟩
abbrev S4608x64 : Shape := ⟨2, ![4608, 64]⟩
abbrev S8x576x64 : Shape := ⟨3, ![8, 576, 64]⟩
abbrev S1x576x64 : Shape := ⟨3, ![1, 576, 64]⟩
abbrev S320x320 : Shape := ⟨2, ![320, 320]⟩
abbrev S7x768 : Shape := ⟨2, ![7, 768]⟩
abbrev S8x1 : Shape := ⟨2, ![8, 1]⟩
abbrev S8x1x1 : Shape := ⟨3, ![8, 1, 1]⟩
abbrev S8x576 : Shape := ⟨2, ![8, 576]⟩
abbrev S8x576x1 : Shape := ⟨3, ![8, 576, 1]⟩
abbrev S8x1x576 : Shape := ⟨3, ![8, 1, 576]⟩
abbrev S8x576x576 : Shape := ⟨3, ![8, 576, 576]⟩
abbrev S1x576x72 : Shape := ⟨3, ![1, 576, 72]⟩
abbrev S8x576x72 : Shape := ⟨3, ![8, 576, 72]⟩
abbrev S576x64 : Shape := ⟨2, ![576, 64]⟩
abbrev S80x64 : Shape := ⟨2, ![80, 64]⟩
abbrev S80 : Shape := ⟨1, ![80]⟩
abbrev S80x1 : Shape := ⟨2, ![80, 1]⟩
abbrev S320x64 : Shape := ⟨2, ![320, 64]⟩
abbrev S320 : Shape := ⟨1, ![320]⟩
abbrev S320x1 : Shape := ⟨2, ![320, 1]⟩
abbrev S72x768 : Shape := ⟨2, ![72, 768]⟩
abbrev S576x72 : Shape := ⟨2, ![576, 72]⟩
abbrev S576x768 : Shape := ⟨2, ![576, 768]⟩
abbrev S1x576x768 : Shape := ⟨3, ![1, 576, 768]⟩

abbrev nBuf : Space → Nat
  | .hbm => 38
  | .vmem => 22
  | .smem => 0
  | _ => 0

abbrev bufTy : (tb : Table) → Fin (tcTables nBuf tb) → BufTy
  | .hbm, ⟨0, _⟩ => ⟨S64x576x768, .f32⟩
  | .hbm, ⟨1, _⟩ => ⟨S64x77x768, .f32⟩
  | .hbm, ⟨2, _⟩ => ⟨S64x768, .f32⟩
  | .hbm, ⟨3, _⟩ => ⟨S64, .f32⟩
  | .hbm, ⟨4, _⟩ => ⟨S768x64, .f32⟩
  | .hbm, ⟨5, _⟩ => ⟨S768, .f32⟩
  | .hbm, ⟨6, _⟩ => ⟨S1x16x64, .f32⟩
  | .hbm, ⟨7, _⟩ => ⟨S192x64, .f32⟩
  | .hbm, ⟨8, _⟩ => ⟨S192, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64x1x64, .f32⟩
  | .hbm, ⟨15, _⟩ => ⟨S768x64, .f32⟩
  | .hbm, ⟨16, _⟩ => ⟨S64x768, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64x64, .f32⟩
  | .hbm, ⟨30, _⟩ => ⟨S1x64, .f32⟩
  | .hbm, ⟨31, _⟩ => ⟨S1x64, .f32⟩
  | .hbm, ⟨32, _⟩ => ⟨S1x768, .f32⟩
  | .hbm, ⟨33, _⟩ => ⟨S16x64, .f32⟩
  | .hbm, ⟨34, _⟩ => ⟨S1x64, .f32⟩
  | .hbm, ⟨35, _⟩ => ⟨S1x64, .f32⟩
  | .hbm, ⟨36, _⟩ => ⟨S1x1, .f32⟩
  | .hbm, ⟨37, _⟩ => ⟨S64x576x768, .f32⟩
  | .local _ .vmem, ⟨0, _⟩ => ⟨S8x576x768, .f32⟩
  | .local _ .vmem, ⟨1, _⟩ => ⟨S8x576x768, .f32⟩
  | .local _ .vmem, ⟨2, _⟩ => ⟨S8x1x64, .f32⟩
  | .local _ .vmem, ⟨3, _⟩ => ⟨S8x1x64, .f32⟩
  | .local _ .vmem, ⟨4, _⟩ => ⟨S768x64, .f32⟩
  | .local _ .vmem, ⟨5, _⟩ => ⟨S1x64, .f32⟩
  | .local _ .vmem, ⟨6, _⟩ => ⟨S64x768, .f32⟩
  | .local _ .vmem, ⟨7, _⟩ => ⟨S1x768, .f32⟩
  | .local _ .vmem, ⟨8, _⟩ => ⟨S16x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x1, .f32⟩
  | .local _ .vmem, ⟨20, _⟩ => ⟨S8x576x768, .f32⟩
  | .local _ .vmem, ⟨21, _⟩ => ⟨S8x576x768, .f32⟩
  | _, _ => ⟨S64x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8x576x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S64x576x768 : Shape := ⟨3, ![64, 576, 768]⟩
abbrev S64x77x768 : Shape := ⟨3, ![64, 77, 768]⟩
abbrev S64x768 : Shape := ⟨2, ![64, 768]⟩
abbrev S64 : Shape := ⟨1, ![64]⟩
abbrev S768x64 : Shape := ⟨2, ![768, 64]⟩
abbrev S768 : Shape := ⟨1, ![768]⟩
abbrev S1x16x64 : Shape := ⟨3, ![1, 16, 64]⟩
abbrev S192x64 : Shape := ⟨2, ![192, 64]⟩
abbrev S192 : Shape := ⟨1, ![192]⟩
abbrev S64x64 : Shape := ⟨2, ![64, 64]⟩
abbrev S_ : Shape := ⟨0, ![]⟩
abbrev S64x576x64 : Shape := ⟨3, ![64, 576, 64]⟩
abbrev S1x1x64 : Shape := ⟨3, ![1, 1, 64]⟩
abbrev S64x77x64 : Shape := ⟨3, ![64, 77, 64]⟩
abbrev S64x1x64 : Shape := ⟨3, ![64, 1, 64]⟩
abbrev S64x576 : Shape := ⟨2, ![64, 576]⟩
abbrev S64x576x1 : Shape := ⟨3, ![64, 576, 1]⟩
abbrev S64x1 : Shape := ⟨2, ![64, 1]⟩
abbrev S64x1x1 : Shape := ⟨3, ![64, 1, 1]⟩
abbrev S64x64x1 : Shape := ⟨3, ![64, 64, 1]⟩
abbrev S64x64x2 : Shape := ⟨3, ![64, 64, 2]⟩
abbrev S64x64x64 : Shape := ⟨3, ![64, 64, 64]⟩
abbrev S64x16x64 : Shape := ⟨3, ![64, 16, 64]⟩
abbrev S64x80x64 : Shape := ⟨3, ![64, 80, 64]⟩
abbrev S64x80 : Shape := ⟨2, ![64, 80]⟩
abbrev S64x80x1 : Shape := ⟨3, ![64, 80, 1]⟩
abbrev S64x192 : Shape := ⟨2, ![64, 192]⟩
abbrev S64x80x192 : Shape := ⟨3, ![64, 80, 192]⟩
abbrev S1x1x192 : Shape := ⟨3, ![1, 1, 192]⟩
abbrev S64x80x4x16 : Shape := ⟨4, ![64, 80, 4, 16]⟩
abbrev S64x4x80x16 : Shape := ⟨4, ![64, 4, 80, 16]⟩
abbrev S64x4x16x80 : Shape := ⟨4, ![64, 4, 16, 80]⟩
abbrev S64x4x80x80 : Shape := ⟨4, ![64, 4, 80, 80]⟩
abbrev S64x4x80 : Shape := ⟨3, ![64, 4, 80]⟩
abbrev S64x4x80x1 : Shape := ⟨4, ![64, 4, 80, 1]⟩
abbrev S1x1x768 : Shape := ⟨3, ![1, 1, 768]⟩

abbrev nBuf : Space → Nat
  | .hbm => 181
  | .vmem => 0
  | .smem => 0
  | _ => 0

abbrev hbmTy0_0 (i : Nat) : BufTy := match i % 128 with
  | 0 => ⟨S64x576x768, .f32⟩
  | 1 => ⟨S64x77x768, .f32⟩
  | 2 => ⟨S64x768, .f32⟩
  | 3 => ⟨S64, .f32⟩
  | 4 => ⟨S768x64, .f32⟩
  | 5 => ⟨S768, .f32⟩
  | 6 => ⟨S1x16x64, .f32⟩
  | 7 => ⟨S192x64, .f32⟩
  | 8 => ⟨S192, .f32⟩
  | 9 => ⟨S64x64, .f32⟩
  | 10 => ⟨S64, .f32⟩
  | 11 => ⟨S64, .f32⟩
  | 12 => ⟨S64, .f32⟩
  | 13 => ⟨S_, .f32⟩
  | 14 => ⟨S768x64, .f32⟩
  | 15 => ⟨S64x576x64, .f32⟩
  | 16 => ⟨S1x1x64, .f32⟩
  | 17 => ⟨S64x576x64, .f32⟩
  | 18 => ⟨S64x576x64, .f32⟩
  | 19 => ⟨S_, .f32⟩
  | 20 => ⟨S64x576x64, .f32⟩
  | 21 => ⟨S64x576x64, .f32⟩
  | 22 => ⟨S64x576x64, .f32⟩
  | 23 => ⟨S_, .f32⟩
  | 24 => ⟨S64x576x64, .f32⟩
  | 25 => ⟨S64x576x64, .f32⟩
  | 26 => ⟨S64x576x64, .f32⟩
  | 27 => ⟨S64x576x64, .f32⟩
  | 28 => ⟨S64x77x64, .f32⟩
  | 29 => ⟨S64x1x64, .f32⟩
  | 30 => ⟨S64x576x64, .f32⟩
  | 31 => ⟨S_, .f32⟩
  | 32 => ⟨S64x576, .f32⟩
  | 33 => ⟨S64x576x1, .f32⟩
  | 34 => ⟨S64x576x1, .f32⟩
  | 35 => ⟨S_, .f32⟩
  | 36 => ⟨S64x576x1, .f32⟩
  | 37 => ⟨S64x576x1, .f32⟩
  | 38 => ⟨S64x576x64, .f32⟩
  | 39 => ⟨S64x576x64, .f32⟩
  | 40 => ⟨S64x1x64, .f32⟩
  | 41 => ⟨S_, .f32⟩
  | 42 => ⟨S64x1, .f32⟩
  | 43 => ⟨S64x1x1, .f32⟩
  | 44 => ⟨S64x1x1, .f32⟩
  | 45 => ⟨S_, .f32⟩
  | 46 => ⟨S64x1x1, .f32⟩
  | 47 => ⟨S64x1x1, .f32⟩
  | 48 => ⟨S64x1x64, .f32⟩
  | 49 => ⟨S64x1x64, .f32⟩
  | 50 => ⟨S64x576x1, .f32⟩
  | 51 => ⟨S64x576, .f32⟩
  | 52 => ⟨S64x64, .f32⟩
  | 53 => ⟨S64x64, .i32⟩
  | 54 => ⟨S64x64, .i32⟩
  | 55 => ⟨S64, .i32⟩
  | 56 => ⟨S64x1, .i32⟩
  | 57 => ⟨S_, .i32⟩
  | 58 => ⟨S64x1, .i32⟩
  | 59 => ⟨S64x1, .i1⟩
  | 60 => ⟨S_, .i32⟩
  | 61 => ⟨S64x1, .i32⟩
  | 62 => ⟨S64x1, .i32⟩
  | 63 => ⟨S64x1, .i32⟩
  | 64 => ⟨S_, .i32⟩
  | 65 => ⟨S64x64, .i32⟩
  | 66 => ⟨S64x64, .i1⟩
  | 67 => ⟨S_, .i32⟩
  | 68 => ⟨S64x64, .i32⟩
  | 69 => ⟨S64x64, .i32⟩
  | 70 => ⟨S64x64, .i32⟩
  | 71 => ⟨S64x64, .i32⟩
  | 72 => ⟨S64x64x1, .i32⟩
  | 73 => ⟨S64x64x1, .i32⟩
  | 74 => ⟨S64x64x2, .i32⟩
  | 75 => ⟨S64x64x64, .f32⟩
  | 76 => ⟨S64x16x64, .f32⟩
  | 77 => ⟨S64x80x64, .f32⟩
  | 78 => ⟨S_, .f32⟩
  | 79 => ⟨S64x80, .f32⟩
  | 80 => ⟨S64x80x1, .f32⟩
  | 81 => ⟨S_, .f32⟩
  | 82 => ⟨S64x80x1, .f32⟩
  | 83 => ⟨S64x80x1, .f32⟩
  | 84 => ⟨S64x80x64, .f32⟩
  | 85 => ⟨S64x80x64, .f32⟩
  | 86 => ⟨S64x80x64, .f32⟩
  | 87 => ⟨S_, .f32⟩
  | 88 => ⟨S64x80, .f32⟩
  | 89 => ⟨S64x80x1, .f32⟩
  | 90 => ⟨S_, .f32⟩
  | 91 => ⟨S64x80x1, .f32⟩
  | 92 => ⟨S64x80x1, .f32⟩
  | 93 => ⟨S64x80x64, .f32⟩
  | 94 => ⟨S64x80x64, .f32⟩
  | 95 => ⟨S_, .f32⟩
  | 96 => ⟨S64x80x1, .f32⟩
  | 97 => ⟨S64x80x1, .f32⟩
  | 98 => ⟨S64x80x1, .f32⟩
  | 99 => ⟨S64x80x64, .f32⟩
  | 100 => ⟨S64x80x64, .f32⟩
  | 101 => ⟨S1x1x64, .f32⟩
  | 102 => ⟨S64x80x64, .f32⟩
  | 103 => ⟨S64x80x64, .f32⟩
  | 104 => ⟨S1x1x64, .f32⟩
  | 105 => ⟨S64x80x64, .f32⟩
  | 106 => ⟨S64x80x64, .f32⟩
  | 107 => ⟨S64x192, .f32⟩
  | 108 => ⟨S64x80x192, .f32⟩
  | 109 => ⟨S1x1x192, .f32⟩
  | 110 => ⟨S64x80x192, .f32⟩
  | 111 => ⟨S64x80x192, .f32⟩
  | 112 => ⟨S64x80x64, .f32⟩
  | 113 => ⟨S64x80x64, .f32⟩
  | 114 => ⟨S64x80x64, .f32⟩
  | 115 => ⟨S64x80x4x16, .f32⟩
  | 116 => ⟨S64x4x80x16, .f32⟩
  | 117 => ⟨S64x80x4x16, .f32⟩
  | 118 => ⟨S64x4x80x16, .f32⟩
  | 119 => ⟨S64x80x4x16, .f32⟩
  | 120 => ⟨S64x4x80x16, .f32⟩
  | 121 => ⟨S64x4x16x80, .f32⟩
  | 122 => ⟨S64x4x80x80, .f32⟩
  | 123 => ⟨S_, .f32⟩
  | 124 => ⟨S_, .f32⟩
  | 125 => ⟨S_, .f32⟩
  | 126 => ⟨S64x4x80x80, .f32⟩
  | 127 => ⟨S64x4x80x80, .f32⟩
  | _ => ⟨S64x576x768, .f32⟩

abbrev hbmTy0_1 (i : Nat) : BufTy := match i % 128 with
  | 0 => ⟨S_, .f32⟩
  | 1 => ⟨S64x4x80, .f32⟩
  | 2 => ⟨S_, .f32⟩
  | 3 => ⟨S64x4x80, .f32⟩
  | 4 => ⟨S64x4x80, .f32⟩
  | 5 => ⟨S64x4x80x1, .f32⟩
  | 6 => ⟨S64x4x80x80, .f32⟩
  | 7 => ⟨S64x4x80x80, .f32⟩
  | 8 => ⟨S64x4x80x80, .f32⟩
  | 9 => ⟨S_, .f32⟩
  | 10 => ⟨S64x4x80, .f32⟩
  | 11 => ⟨S64x4x80x1, .f32⟩
  | 12 => ⟨S64x4x80x80, .f32⟩
  | 13 => ⟨S64x4x80x80, .f32⟩
  | 14 => ⟨S64x4x80x16, .f32⟩
  | 15 => ⟨S64x80x4x16, .f32⟩
  | 16 => ⟨S64x80x64, .f32⟩
  | 17 => ⟨S64x64, .f32⟩
  | 18 => ⟨S64x80x64, .f32⟩
  | 19 => ⟨S1x1x64, .f32⟩
  | 20 => ⟨S64x80x64, .f32⟩
  | 21 => ⟨S64x80x64, .f32⟩
  | 22 => ⟨S64x80x64, .f32⟩
  | 23 => ⟨S64x64x64, .f32⟩
  | 24 => ⟨S_, .f32⟩
  | 25 => ⟨S64x576x64, .f32⟩
  | 26 => ⟨S_, .i32⟩
  | 27 => ⟨S64x1, .i32⟩
  | 28 => ⟨S64x1, .i1⟩
  | 29 => ⟨S_, .i32⟩
  | 30 => ⟨S64x1, .i32⟩
  | 31 => ⟨S64x1, .i32⟩
  | 32 => ⟨S64x1, .i32⟩
  | 33 => ⟨S_, .i32⟩
  | 34 => ⟨S64x64, .i32⟩
  | 35 => ⟨S64x64, .i1⟩
  | 36 => ⟨S_, .i32⟩
  | 37 => ⟨S64x64, .i32⟩
  | 38 => ⟨S64x64, .i32⟩
  | 39 => ⟨S64x64, .i32⟩
  | 40 => ⟨S64x64, .i32⟩
  | 41 => ⟨S64x64x1, .i32⟩
  | 42 => ⟨S64x64x1, .i32⟩
  | 43 => ⟨S64x64x2, .i32⟩
  | 44 => ⟨S64x576x64, .f32⟩
  | 45 => ⟨S64x768, .f32⟩
  | 46 => ⟨S64x576x768, .f32⟩
  | 47 => ⟨S1x1x768, .f32⟩
  | 48 => ⟨S64x576x768, .f32⟩
  | 49 => ⟨S64x576x768, .f32⟩
  | 50 => ⟨S64x576x768, .f32⟩
  | 51 => ⟨S64x576x768, .f32⟩
  | 52 => ⟨S64x576x768, .f32⟩
  | _ => ⟨S64x576x768, .f32⟩

abbrev hbmTy (i : Nat) : BufTy := match i / 128 with
  | 0 => hbmTy0_0 i
  | 1 => hbmTy0_1 i
  | _ => ⟨S64x576x768, .f32⟩

abbrev bufTy : (tb : Table) → Fin (tcTables nBuf tb) → BufTy
  | .hbm, ⟨i, _⟩ => hbmTy i
  | _, _ => ⟨S64x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_values : Ref sig .tc := ⟨.hbm, 52, rfl⟩
abbrev main_indices : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_13 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_14 : Ref sig .tc := ⟨.hbm, 128, rfl⟩
abbrev main_v96 : Ref sig .tc := ⟨.hbm, 129, rfl⟩
abbrev main_cst_15 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_16 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_17 : Ref sig .tc := ⟨.hbm, 152, rfl⟩
abbrev main_v117 : Ref sig .tc := ⟨.hbm, 153, rfl⟩
abbrev main_c_18 : Ref sig .tc := ⟨.hbm, 154, rfl⟩
abbrev main_v118 : Ref sig .tc := ⟨.hbm, 155, rfl⟩
abbrev main_v119 : Ref sig .tc := ⟨.hbm, 156, rfl⟩
abbrev main_c_19 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_20 : Ref sig .tc := ⟨.hbm, 161, rfl⟩
abbrev main_v123 : Ref sig .tc := ⟨.hbm, 162, rfl⟩
abbrev main_v124 : Ref sig .tc := ⟨.hbm, 163, rfl⟩
abbrev main_c_21 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩

abbrev nD : Nat := 1
abbrev τ : Topo := Topo.v7x

variable {F : FTy → Type} [FloatOps F]
-- ==== Proof.Model.lean ====
/- The mathematics of the problem over the real numbers, for one image at a time: the activation, the cosine score, the
   rank of a token among the scores, and attention of one row over a context. -/
module

public import Idealize.ShloMosaic.PureOps.Ideal.Laws

@[expose] public section

noncomputable section

namespace Cert.Model

open Idealize.ShloMosaic

/-- A bound below which a norm is replaced, as its literal denotes it (about 1e-12). -/
def tiny : ℝ := (Ideal.ofBits .f32 0x2B8CBCCC#32).toReal
/-- The literal added to a variance (about 1e-5). -/
def eps : ℝ := (Ideal.ofBits .f32 0x3727C5AC#32).toReal
/-- The literal for the square root of one half. -/
def rootHalf : ℝ := (Ideal.ofBits .f32 0x3F3504F3#32).toReal

/-- The error function. -/
def erf (r : ℝ) : ℝ := 2 / Real.sqrt Real.pi * ∫ t in (0 : ℝ)..r, Real.exp (-(t ^ 2))

/-- The exact Gaussian error linear unit. -/
def gelu (p : ℝ) : ℝ := 1 / 2 * p * (1 + erf (p * rootHalf))

/-- The activation of a token's features. -/
def act (wd : Fin 64 → Fin 768 → ℝ) (bd : Fin 64 → ℝ) (x : Fin 768 → ℝ) (d : Fin 64) : ℝ := gelu (∑ c, x c * wd d c + bd d)

/-- The norm of a row, kept away from zero. -/
def rowNorm (x : Fin 64 → ℝ) : ℝ := max (Real.sqrt (∑ d, x d * x d)) tiny

/-- The cosine of two rows. -/
def score (x s : Fin 64 → ℝ) : ℝ := ∑ d, x d / rowNorm x * (s d / rowNorm s)

/-- How many tokens have a better score. -/
def rank (sc : Fin 576 → ℝ) (n : Fin 576) : ℕ := (Finset.univ.filter fun j => sc n < sc j).card

/-- A token that fewer than 64 are better than shares its score with no other. -/
def Untied (sc : Fin 576 → ℝ) : Prop :=
  ∀ n, 64 ≤ rank sc n ∨ (Finset.univ.filter fun j => sc j = sc n).card = 1

/-- The weights of the attention layer. -/
structure Weights where
  lw : Fin 64 → ℝ
  lb : Fin 64 → ℝ
  wq : Fin 64 → Fin 64 → ℝ
  bq : Fin 64 → ℝ
  wk : Fin 64 → Fin 64 → ℝ
  bk : Fin 64 → ℝ
  wv : Fin 64 → Fin 64 → ℝ
  bv : Fin 64 → ℝ
  wo : Fin 64 → Fin 64 → ℝ
  bo : Fin 64 → ℝ

/-- The mean of a row. -/
def mean (x : Fin 64 → ℝ) : ℝ := (∑ d, x d) / 64
/-- The variance of a row. -/
def var (x : Fin 64 → ℝ) : ℝ := (∑ d, (x d - mean x) * (x d - mean x)) / 64

/-- Layer normalisation of a row. -/
def layerNorm (W : Weights) (x : Fin 64 → ℝ) (d : Fin 64) : ℝ :=
  (x d - mean x) / Real.sqrt (var x + eps) * W.lw d + W.lb d

/-- A linear layer with a bias. -/
def linear (w : Fin 64 → Fin 64 → ℝ) (b : Fin 64 → ℝ) (x : Fin 64 → ℝ) (d : Fin 64) : ℝ := ∑ k, x k * w d k + b d

/-- The query of a row. -/
def query (W : Weights) (x : Fin 64 → ℝ) : Fin 64 → ℝ := linear W.wq W.bq (layerNorm W x)
/-- The key of a row. -/
def key (W : Weights) (x : Fin 64 → ℝ) : Fin 64 → ℝ := linear W.wk W.bk (layerNorm W x)
/-- The value of a row. -/
def value (W : Weights) (x : Fin 64 → ℝ) : Fin 64 → ℝ := linear W.wv W.bv (layerNorm W x)

/-- Feature `e` of head `h`. -/
def feature (h : Fin 4) (e : Fin 16) : Fin 64 := ⟨16 * h.val + e.val, by omega⟩
/-- The head that a feature belongs to. -/
def head (d : Fin 64) : Fin 4 := ⟨d.val / 16, by omega⟩

/-- The exponential of the scaled product of a query and a key in head `h`. -/
def weight (q k : Fin 64 → ℝ) (h : Fin 4) : ℝ := Real.exp ((∑ e, q (feature h e) * k (feature h e)) / 4)

/-- What row `x` reads from a context, of which `T` sums a function over its rows. -/
def attend (W : Weights) (T : ((Fin 64 → ℝ) → ℝ) → ℝ) (x : Fin 64 → ℝ) (d : Fin 64) : ℝ :=
  T (fun y => weight (query W x) (key W y) (head d) * value W y d) / T (fun y => weight (query W x) (key W y) (head d))

/-- A row after attention with its residual. -/
def enhance (W : Weights) (T : ((Fin 64 → ℝ) → ℝ) → ℝ) (x : Fin 64 → ℝ) (d : Fin 64) : ℝ :=
  x d + linear W.wo W.bo (attend W T x) d

/-- The sum over the learned queries and the selected tokens of an image. -/
def context (mq : Fin 16 → Fin 64 → ℝ) (act : Fin 576 → Fin 64 → ℝ) (sc : Fin 576 → ℝ) (f : (Fin 64 → ℝ) → ℝ) : ℝ :=
  ∑ i, f (mq i) + ∑ n ∈ Finset.univ.filter (fun n => rank sc n < 64), f (act n)

/-- The parameters of the module. -/
structure Params where
  wd : Fin 64 → Fin 768 → ℝ
  bd : Fin 64 → ℝ
  wu : Fin 768 → Fin 64 → ℝ
  bu : Fin 768 → ℝ
  mq : Fin 16 → Fin 64 → ℝ
  W : Weights
  γ : ℝ

/-- The activations of an image. -/
def Params.acts (P : Params) (x : Fin 576 → Fin 768 → ℝ) (n : Fin 576) : Fin 64 → ℝ := act P.wd P.bd (x n)

/-- The scores of an image's tokens against a text row. -/
def Params.scores (P : Params) (x : Fin 576 → Fin 768 → ℝ) (s : Fin 64 → ℝ) (n : Fin 576) : ℝ := score (P.acts x n) s

/-- One element of the result. -/
def Params.out (P : Params) (x : Fin 576 → Fin 768 → ℝ) (s : Fin 64 → ℝ) (n : Fin 576) (e : Fin 768) : ℝ :=
  x n e + ((if rank (P.scores x s) n < 64
    then ∑ d, enhance P.W (context P.mq (P.acts x) (P.scores x s)) (P.acts x n) d * P.wu e d else 0) + P.bu e) * P.γ

/-! ## Ranks -/

/-- A better score has a smaller rank. -/
theorem rank_lt {sc : Fin 576 → ℝ} {m n : Fin 576} (h : sc n < sc m) : rank sc m < rank sc n := by
  apply Finset.card_lt_card
  rw [Finset.ssubset_iff_of_subset]
  · exact ⟨m, by simpa using h, by simp⟩
  · intro j hj
    simp only [Finset.mem_filter, Finset.mem_univ, true_and] at hj ⊢
    exact h.trans hj

/-- Two tokens of the same rank below 64 are one. -/
theorem rank_inj {sc : Fin 576 → ℝ} (hu : Untied sc) {m n : Fin 576} (hn : rank sc n < 64) (h : rank sc m = rank sc n) : m = n := by
  rcases lt_trichotomy (sc m) (sc n) with h1 | h1 | h1
  · exact absurd (rank_lt h1) (by omega)
  · obtain h2 | h2 := hu n
    · omega
    · rw [Finset.card_eq_one] at h2
      obtain ⟨a, ha⟩ := h2
      have hm : m ∈ (Finset.univ.filter fun j => sc j = sc n) := by simp [h1]
      have hn' : n ∈ (Finset.univ.filter fun j => sc j = sc n) := by simp
      rw [ha, Finset.mem_singleton] at hm hn'
      rw [hm, hn']
  · exact absurd (rank_lt h1) (by omega)

/-- Every rank below 64 is taken. -/
theorem exists_rank {sc : Fin 576 → ℝ} (hu : Untied sc) (r : Fin 64) : ∃ n, rank sc n = r.val := by
  have hne : ∃ n, r.val ≤ rank sc n := by
    by_contra hc
    push Not at hc
    have h := Finset.card_le_card_of_injOn (s := (Finset.univ : Finset (Fin 576))) (t := Finset.range r.val) (rank sc)
      (fun n _ => by simpa using hc n) (fun a _ b _ hab => rank_inj hu (by have := hc b; omega) hab)
    simp only [Finset.card_univ, Fintype.card_fin, Finset.card_range] at h
    omega
  obtain ⟨n, hn, hmin⟩ := (Finset.univ.filter fun n => r.val ≤ rank sc n).exists_min_image (rank sc)
    (by obtain ⟨n, hn⟩ := hne; exact ⟨n, by simpa using hn⟩)
  simp only [Finset.mem_filter, Finset.mem_univ, true_and] at hn hmin
  refine ⟨n, le_antisymm ?_ hn⟩
  have hlt : ∀ j, sc n < sc j → rank sc j < r.val := fun j hj => by
    by_contra hc
    have := hmin j (by omega)
    have := rank_lt hj
    omega
  have h := Finset.card_le_card_of_injOn (s := Finset.univ.filter fun j => sc n < sc j) (t := Finset.range r.val) (rank sc)
    (fun j hj => by simpa using hlt j (by simpa using hj))
    (fun a _ b hb hab => rank_inj hu (by have := hlt b (by simpa using hb); omega) hab)
  simpa [rank] using h

/-- The token of a rank below 64. -/
def ranked {sc : Fin 576 → ℝ} (hu : Untied sc) (r : Fin 64) : Fin 576 := (exists_rank hu r).choose

/-- The token of a rank has that rank. -/
theorem rank_ranked {sc : Fin 576 → ℝ} (hu : Untied sc) (r : Fin 64) : rank sc (ranked hu r) = r.val := (exists_rank hu r).choose_spec

/-- Of each rank below 64 there is one token alone. -/
theorem rank_eq_iff {sc : Fin 576 → ℝ} (hu : Untied sc) (r : Fin 64) (n : Fin 576) : rank sc n = r.val ↔ n = ranked hu r := by
  constructor
  · intro h
    exact rank_inj hu (by rw [rank_ranked]; exact r.isLt) (by rw [h, rank_ranked])
  · rintro rfl
    exact rank_ranked hu r

/-- Different ranks have different tokens. -/
theorem ranked_injective {sc : Fin 576 → ℝ} (hu : Untied sc) : Function.Injective (ranked hu) := fun a b h =>
  Fin.ext (by rw [← rank_ranked hu a, ← rank_ranked hu b, h])

/-- The selected tokens are those of a rank below 64. -/
theorem selected_eq {sc : Fin 576 → ℝ} (hu : Untied sc) :
    (Finset.univ.filter fun n => rank sc n < 64) = Finset.univ.image (ranked hu) := by
  ext n
  simp only [Finset.mem_filter, Finset.mem_univ, true_and, Finset.mem_image]
  constructor
  · intro h
    exact ⟨⟨rank sc n, h⟩, ((rank_eq_iff hu ⟨rank sc n, h⟩ n).1 rfl).symm⟩
  · rintro ⟨r, rfl⟩
    rw [rank_ranked]
    exact r.isLt

/-- 64 tokens are selected. -/
theorem card_selected {sc : Fin 576 → ℝ} (hu : Untied sc) : (Finset.univ.filter fun n => rank sc n < 64).card = 64 := by
  rw [selected_eq hu, Finset.card_image_of_injective _ (ranked_injective hu)]
  simp

/-- An injective choice of 64 tokens that are selected chooses all of the selected. -/
theorem image_eq_selected {sc : Fin 576 → ℝ} (hu : Untied sc) {p : Fin 64 → Fin 576} (hp : Function.Injective p)
    (h : ∀ r, rank sc (p r) < 64) : Finset.univ.image p = Finset.univ.filter fun n => rank sc n < 64 := by
  apply Finset.eq_of_subset_of_card_le
  · intro n hn
    obtain ⟨r, _, rfl⟩ := Finset.mem_image.1 hn
    simpa using h r
  · rw [card_selected hu, Finset.card_image_of_injective _ hp]
    simp

/-- The context, its selected tokens listed in any order. -/
theorem context_eq {mq : Fin 16 → Fin 64 → ℝ} {act : Fin 576 → Fin 64 → ℝ} {sc : Fin 576 → ℝ} (hu : Untied sc)
    {p : Fin 64 → Fin 576} (hp : Function.Injective p) (h : ∀ r, rank sc (p r) < 64) (f : (Fin 64 → ℝ) → ℝ) :
    context mq act sc f = ∑ i, f (mq i) + ∑ r, f (act (p r)) := by
  rw [context, ← image_eq_selected hu hp h, Finset.sum_image (fun a _ b _ hab => hp hab)]

/-- A token that is no member of an antitone listing's better part is not better. -/
theorem rank_le_of_sorted {sc : Fin 576 → ℝ} {p : Fin 576 → Fin 576} (hp : Function.Surjective p)
    (h : ∀ i j, i < j → ¬ sc (p i) < sc (p j)) (i : Fin 576) : rank sc (p i) ≤ i.val := by
  have h1 : (Finset.univ.filter fun j => sc (p i) < sc j) ⊆ (Finset.univ.filter fun k => k < i).image p := by
    intro j hj
    simp only [Finset.mem_filter, Finset.mem_univ, true_and] at hj
    obtain ⟨k, rfl⟩ := hp j
    refine Finset.mem_image.2 ⟨k, ?_, rfl⟩
    simp only [Finset.mem_filter, Finset.mem_univ, true_and]
    by_contra hc
    rcases (not_lt.1 hc).lt_or_eq with h2 | h2
    · exact h i k h2 hj
    · exact absurd hj (by rw [h2]; exact lt_irrefl _)
  refine (Finset.card_le_card h1).trans (Finset.card_image_le.trans ?_)
  have : (Finset.univ.filter fun k : Fin 576 => k < i) = Finset.Iio i := by ext; simp
  rw [this]
  simp

/-! ## Heads -/

/-- A sum over the features of one head, as a masked sum over all of them. -/
theorem sum_feature (f : Fin 64 → ℝ) (h : Fin 4) : ∑ e, f (feature h e) = ∑ d, if head d = h then f d else 0 := by
  rw [← Finset.sum_filter]
  refine Finset.sum_bij (fun e _ => feature h e) ?_ ?_ ?_ ?_
  · intro e _
    refine Finset.mem_filter.2 ⟨Finset.mem_univ _, Fin.ext ?_⟩
    show (16 * h.val + e.val) / 16 = h.val
    omega
  · intro a _ b _ hab
    have := congrArg Fin.val hab
    simp only [feature] at this
    apply Fin.ext
    omega
  · intro d hd
    have h1 : d.val / 16 = h.val := congrArg Fin.val (Finset.mem_filter.1 hd).2
    refine ⟨⟨d.val % 16, by omega⟩, Finset.mem_univ _, Fin.ext ?_⟩
    simp only [feature]
    omega
  · intro e _
    rfl

/-- A weight is positive. -/
theorem weight_pos (q k : Fin 64 → ℝ) (h : Fin 4) : 0 < weight q k h := Real.exp_pos _

/-- A weight by products over all features, masked to the head. -/
theorem weight_eq (q k : Fin 64 → ℝ) (h : Fin 4) :
    weight q k h = Real.exp (∑ d, q d * (1 / 4 * if head d = h then 1 else 0) * (k d * if head d = h then 1 else 0)) := by
  unfold weight
  congr 1
  rw [sum_feature (fun d => q d * k d), Finset.sum_div]
  refine Finset.sum_congr rfl fun d _ => ?_
  split_ifs <;> ring

/-- The 80 rows of one image: the learned queries, then the tokens chosen by `p`. -/
def rows (mq : Fin 16 → Fin 64 → ℝ) (act : Fin 576 → Fin 64 → ℝ) (p : Fin 64 → Fin 576) (j : Fin 80) : Fin 64 → ℝ :=
  if h : j.val < 16 then mq ⟨j.val, h⟩ else act (p ⟨j.val - 16, by omega⟩)

/-- A sum over the 80 rows. -/
theorem sum_rows (mq : Fin 16 → Fin 64 → ℝ) (act : Fin 576 → Fin 64 → ℝ) (p : Fin 64 → Fin 576) (f : (Fin 64 → ℝ) → ℝ) :
    ∑ j, f (rows mq act p j) = ∑ i, f (mq i) + ∑ r, f (act (p r)) := by
  refine (Fin.sum_univ_add (a := 16) (b := 64) fun j => f (rows mq act p j)).trans ?_
  rfl

end Cert.Model

end
-- ==== Proof.Basic.lean ====
/- The exact operations on extended reals that are real numbers, and layout operations read at an index written by its
   coordinates. -/
module

public import proofs.«01_k».proof.Proof.Model
public import Idealize.ShloMosaic.Lib.Pipeline.Value
public import Idealize.ShloMosaic.Lib.Pointwise.Reshape
public import Idealize.ShloMosaic.Lib.ValueIdx
public import Idealize.ShloMosaic.Lib.IdealHost

@[expose] public section

noncomputable section

namespace Cert.Model

open Idealize.ShloMosaic

/-! ## Constants -/

/-- The literal 1/2. -/
theorem bits_half : Ideal.ofBits .f32 0x3F000000#32 = ((1 / 2 : ℝ) : EReal) := by
  simp [Ideal.ofBits, Ideal.ieee, -EReal.coe_mul]; norm_num
/-- The literal 1/4. -/
theorem bits_quarter : Ideal.ofBits .f32 0x3E800000#32 = ((1 / 4 : ℝ) : EReal) := by
  simp [Ideal.ofBits, Ideal.ieee, -EReal.coe_mul]; norm_num
/-- The literal 1. -/
theorem bits_one : Ideal.ofBits .f32 0x3F800000#32 = ((1 : ℝ) : EReal) := by
  simp [Ideal.ofBits, Ideal.ieee, -EReal.coe_mul]; norm_num
/-- The literal 64. -/
theorem bits_sixtyFour : Ideal.ofBits .f32 0x42800000#32 = ((64 : ℝ) : EReal) := by
  simp [Ideal.ofBits, Ideal.ieee, -EReal.coe_mul]; norm_num
/-- The literal of infinity. -/
theorem bits_top : Ideal.ofBits .f32 0x7F800000#32 = ⊤ := by
  simp [Ideal.ofBits, Ideal.ieee]
/-- The literal of minus infinity. -/
theorem bits_bot : Ideal.ofBits .f32 0xFF800000#32 = ⊥ := by
  simp [Ideal.ofBits, Ideal.ieee]

/-- The literal for the square root of one half is real. -/
theorem bits_rootHalf : Ideal.ofBits .f32 0x3F3504F3#32 = (rootHalf : EReal) := by
  refine (EReal.coe_toReal ?_ ?_).symm <;> simp [Ideal.ofBits, Ideal.ieee, -EReal.coe_mul]
/-- The least norm is real. -/
theorem bits_tiny : Ideal.ofBits .f32 0x2B8CBCCC#32 = (tiny : EReal) := by
  refine (EReal.coe_toReal ?_ ?_).symm <;> simp [Ideal.ofBits, Ideal.ieee, -EReal.coe_mul]
/-- The number added to a variance is real. -/
theorem bits_eps : Ideal.ofBits .f32 0x3727C5AC#32 = (eps : EReal) := by
  refine (EReal.coe_toReal ?_ ?_).symm <;> simp [Ideal.ofBits, Ideal.ieee, -EReal.coe_mul]

/-- The least norm is positive. -/
theorem tiny_pos : 0 < tiny := by
  rw [← EReal.coe_pos, ← bits_tiny]
  simp [Ideal.ofBits, Ideal.ieee, -EReal.coe_mul]
/-- The number added to a variance is positive. -/
theorem eps_pos : 0 < eps := by
  rw [← EReal.coe_pos, ← bits_eps]
  simp [Ideal.ofBits, Ideal.ieee, -EReal.coe_mul]

/-- The norm of a row is positive. -/
theorem rowNorm_pos (x : Fin 64 → ℝ) : 0 < rowNorm x := lt_of_lt_of_le tiny_pos (le_max_right _ _)
/-- A variance is not negative. -/
theorem var_nonneg (x : Fin 64 → ℝ) : 0 ≤ var x :=
  div_nonneg (Finset.sum_nonneg fun d _ => mul_self_nonneg _) (by norm_num)
/-- The number whose root layer normalisation divides by is positive. -/
theorem var_eps_pos (x : Fin 64 → ℝ) : 0 < var x + eps := add_pos_of_nonneg_of_pos (var_nonneg x) eps_pos

/-! ## Operations on extended reals that are real -/

/-- A sum of real numbers. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The greater of two real numbers. -/
theorem coe_max (a b : ℝ) : max (a : EReal) (b : EReal) = ((max a b : ℝ) : EReal) :=
  (EReal.coe_strictMono.monotone.map_max).symm

/-- A quotient of real numbers. -/
theorem coe_div {b : ℝ} (hb : b ≠ 0) (a : ℝ) : Ideal.div (a : EReal) (b : EReal) = ((a / b : ℝ) : EReal) := by
  rw [Ideal.div_coe hb, ← EReal.coe_mul, mul_one_div]

/-- The square root of a real number. -/
theorem coe_sqrt {a : ℝ} (ha : 0 ≤ a) : Ideal.sqrt (a : EReal) = (Real.sqrt a : EReal) := by
  show (if a < 0 then ⊥ else (Real.sqrt a : EReal)) = _
  rw [if_neg (not_lt.2 ha)]

/-- The reciprocal square root of a real number. -/
theorem coe_rsqrt {a : ℝ} (ha : 0 < a) : Ideal.rsqrt (a : EReal) = ((Real.sqrt a)⁻¹ : ℝ) := by
  show (if a < 0 then ⊥ else if a = 0 then ⊤ else (((Real.sqrt a)⁻¹ : ℝ) : EReal)) = _
  rw [if_neg (not_lt.2 ha.le), if_neg ha.ne']

/-- The exponential of a real number. -/
theorem coe_exp (a : ℝ) : Ideal.exp (a : EReal) = (Real.exp a : EReal) := rfl
/-- The exponential of minus infinity. -/
theorem exp_bot : Ideal.exp ⊥ = 0 := rfl
/-- The error function of a real number. -/
theorem coe_erf (a : ℝ) : Ideal.erf (a : EReal) = (erf a : EReal) := rfl

/-- Whether a real number is greater than another. -/
theorem coe_gt (a b : ℝ) : Ideal.cmp .ogt (a : EReal) (b : EReal) = if b < a then 1#1 else 0#1 := by
  by_cases h : b < a <;> simp [Ideal.cmp, h]

/-- Whether two real numbers are equal. -/
theorem coe_oeq (a b : ℝ) : Ideal.cmp .oeq (a : EReal) (b : EReal) = if a = b then 1#1 else 0#1 := by
  by_cases h : a = b <;> simp [Ideal.cmp, h]

/-! ## Pointwise operations -/

section Pointwise
variable {s : Shape} {φ : FTy}

/-- A scalar for every index. -/
theorem splat_apply {α : Type} (v : α) (i : s.Idx) : broadcast s v i = v := rfl
/-- The square root, read at an index. -/
theorem sqrt_apply (x : FVec Ideal s φ) (i : s.Idx) : sqrt x i = Ideal.sqrt (x i) := rfl
/-- The reciprocal square root, read at an index. -/
theorem rsqrt_apply (x : FVec Ideal s φ) (i : s.Idx) : rsqrt x i = Ideal.rsqrt (x i) := rfl
/-- The exponential, read at an index. -/
theorem exp_apply (x : FVec Ideal s φ) (i : s.Idx) : exp x i = Ideal.exp (x i) := rfl
/-- The error function, read at an index. -/
theorem erf_apply (x : FVec Ideal s φ) (i : s.Idx) : Idealize.ShloMosaic.erf x i = Ideal.erf (x i) := rfl
/-- A comparison of floats, read at an index. -/
theorem cmpf_apply (p : CmpFPredicate) (x y : FVec Ideal s φ) (i : s.Idx) : cmpf p x y i = Ideal.cmp p (x i) (y i) := rfl
/-- A narrowing, read at an index: the same number. -/
theorem truncf_apply {ψ : FTy} (x : FVec Ideal s φ) (h : ψ.bits < φ.bits) (i : s.Idx) : truncf (F := Ideal) ψ x h i = x i := rfl
/-- A scalar literal. -/
theorem scalar_apply (b : BitVec 32) : (Scalar.ofBits .f32 b : Ideal .f32) = Ideal.ofBits .f32 b := rfl
/-- A literal. -/
theorem ofBits_apply (b : BitVec 32) : (FloatOps.ofBits .f32 b : Ideal .f32) = Ideal.ofBits .f32 b := rfl

/-- A truth value widened and converted. -/
theorem flag_apply (c : IVec s 1) (h : 1 < 32) (i : s.Idx) :
    (sitofp .f32 (extui 32 c h) i : Ideal .f32) = ((if c i = 1#1 then (1 : ℝ) else 0 : ℝ) : EReal) := by
  show (((((c i).setWidth 32).toInt : ℝ)) : EReal) = _
  generalize c i = t
  have : t = 0#1 ∨ t = 1#1 := by revert t; decide
  rcases this with rfl | rfl <;> simp

/-- A small natural number read as a signed integer. -/
theorem toInt_ofNat {n : ℕ} (h : n < 2 ^ 31) : (BitVec.ofNat 32 n).toInt = n := by
  rw [BitVec.toInt_eq_toNat_of_lt]
  · simp [Nat.mod_eq_of_lt (show n < 4294967296 by omega)]
  · simp [Nat.mod_eq_of_lt (show n < 4294967296 by omega)]
    omega

/-- A comparison of integers, read at an index. -/
theorem cmpi_apply {w : ℕ} (p : CmpIPredicate) (x y : IVec s w) (i : s.Idx) : cmpi p x y i = IntOp.cmpi p (x i) (y i) := rfl
/-- A conjunction of bits, read at an index. -/
theorem andi_apply {w : ℕ} (x y : IVec s w) (i : s.Idx) : andi x y i = x i &&& y i := rfl
/-- A disjunction of bits, read at an index. -/
theorem ori_apply {w : ℕ} (x y : IVec s w) (i : s.Idx) : ori x y i = x i ||| y i := rfl
/-- An integer as a float, read at an index. -/
theorem sitofp_apply (x : IVec s 32) (i : s.Idx) : (sitofp .f32 x i : Ideal .f32) = (((x i).toInt : ℝ) : EReal) := rfl

/-- A count of a property, as a sum of truth values. -/
theorem sum_flag {n : ℕ} (p : Fin n → Prop) [DecidablePred p] :
    ∑ j, (if p j then (1 : ℝ) else 0) = ((Finset.univ.filter p).card : ℝ) := by
  rw [Finset.sum_ite]
  simp

end Pointwise

/-! ## Layout operations at coordinates -/

section Layout
variable {α : Type} {a b c d : ℕ}

/-- The two leading axes made one. -/
theorem shapeCast_3_2 (x : (⟨3, ![a, b, c]⟩ : Shape).Idx → α)
    (h : (⟨3, ![a, b, c]⟩ : Shape).ShapeCasts ⟨2, ![d, c]⟩) (i : Fin a) (j : Fin b) (k : Fin c) (l : Fin d)
    (hl : l.val = i.val * b + j.val) : shapeCast ⟨2, ![d, c]⟩ x h (ix2 l k) = x (ix3 i j k) := by
  apply shapeCast_apply
  rw [rowMajor_val3 _ (b * c) c rfl rfl, rowMajor_val2 _ c rfl]
  show i.val * (b * c) + j.val * c + k.val = l.val * c + k.val
  rw [hl]; ring

/-- The leading axis made two. -/
theorem shapeCast_2_3 (x : (⟨2, ![d, c]⟩ : Shape).Idx → α)
    (h : (⟨2, ![d, c]⟩ : Shape).ShapeCasts ⟨3, ![a, b, c]⟩) (i : Fin a) (j : Fin b) (k : Fin c) (l : Fin d)
    (hl : l.val = i.val * b + j.val) : shapeCast ⟨3, ![a, b, c]⟩ x h (ix3 i j k) = x (ix2 l k) := by
  apply shapeCast_apply
  rw [rowMajor_val3 _ (b * c) c rfl rfl, rowMajor_val2 _ c rfl]
  show l.val * c + k.val = i.val * (b * c) + j.val * c + k.val
  rw [hl]; ring

/-- A vector as a column. -/
theorem shapeCast_col (x : (⟨1, ![a]⟩ : Shape).Idx → α) (h : (⟨1, ![a]⟩ : Shape).ShapeCasts ⟨2, ![a, 1]⟩) (i : Fin a) (u : Fin 1) :
    shapeCast ⟨2, ![a, 1]⟩ x h (ix2 i u) = x (ix1 i) := by
  apply shapeCast_apply
  rw [rowMajor_val1, rowMajor_val2 _ 1 rfl]
  show i.val = i.val * 1 + u.val
  omega

/-- A vector as a row. -/
theorem shapeCast_row (x : (⟨1, ![a]⟩ : Shape).Idx → α) (h : (⟨1, ![a]⟩ : Shape).ShapeCasts ⟨2, ![1, a]⟩) (i : Fin a) (u : Fin 1) :
    shapeCast ⟨2, ![1, a]⟩ x h (ix2 u i) = x (ix1 i) := by
  apply shapeCast_apply
  rw [rowMajor_val1, rowMajor_val2 _ a rfl]
  show i.val = u.val * a + i.val
  have : u.val = 0 := by omega
  rw [this]; omega

/-- A matrix with a last axis of one added. -/
theorem shapeCast_cols (x : (⟨2, ![a, b]⟩ : Shape).Idx → α) (h : (⟨2, ![a, b]⟩ : Shape).ShapeCasts ⟨3, ![a, b, 1]⟩) (i : Fin a) (j : Fin b)
    (u : Fin 1) : shapeCast ⟨3, ![a, b, 1]⟩ x h (ix3 i j u) = x (ix2 i j) := by
  apply shapeCast_apply
  rw [rowMajor_val3 _ (b * 1) 1 rfl rfl, rowMajor_val2 _ b rfl]
  show i.val * b + j.val = i.val * (b * 1) + j.val * 1 + u.val
  rw [mul_one]; omega

/-- A leading axis of one dropped. -/
theorem shapeCast_drop (x : (⟨3, ![1, b, c]⟩ : Shape).Idx → α) (h : (⟨3, ![1, b, c]⟩ : Shape).ShapeCasts ⟨2, ![b, c]⟩) (j : Fin b)
    (k : Fin c) : shapeCast ⟨2, ![b, c]⟩ x h (ix2 j k) = x (ix3 0 j k) :=
  shapeCast_3_2 x h 0 j k j (by simp)

/-- A leading axis of one added. -/
theorem shapeCast_add (x : (⟨2, ![b, c]⟩ : Shape).Idx → α) (h : (⟨2, ![b, c]⟩ : Shape).ShapeCasts ⟨3, ![1, b, c]⟩) (u : Fin 1) (j : Fin b)
    (k : Fin c) : shapeCast ⟨3, ![1, b, c]⟩ x h (ix3 u j k) = x (ix2 j k) :=
  shapeCast_2_3 x h u j k j (by have : u.val = 0 := by omega
                                rw [this]; omega)

/-- A coordinate on an axis, of one or of more. -/
theorem val_ite {n : ℕ} (i : Fin n) : i.val = if n = 1 then 0 else i.val := by
  split_ifs with h <;> omega

/-- A row repeated. -/
theorem broadcast_row (x : (⟨2, ![1, c]⟩ : Shape).Idx → α) (h : (⟨2, ![1, c]⟩ : Shape).Broadcasts ⟨2, ![a, c]⟩) (i : Fin a) (k : Fin c) :
    broadcastTo ⟨2, ![a, c]⟩ x h (ix2 i k) = x (ix2 0 k) := by
  apply broadcastTo_apply
  intro e
  match e with
  | ⟨0, _⟩ => exact (if_pos rfl).symm
  | ⟨1, _⟩ => exact val_ite k

/-- A column repeated. -/
theorem broadcast_col (x : (⟨2, ![a, 1]⟩ : Shape).Idx → α) (h : (⟨2, ![a, 1]⟩ : Shape).Broadcasts ⟨2, ![a, c]⟩) (i : Fin a) (k : Fin c) :
    broadcastTo ⟨2, ![a, c]⟩ x h (ix2 i k) = x (ix2 i 0) := by
  apply broadcastTo_apply
  intro e
  match e with
  | ⟨0, _⟩ => exact val_ite i
  | ⟨1, _⟩ => exact (if_pos rfl).symm

/-- The last axis repeated. -/
theorem broadcast_last (x : (⟨3, ![a, b, 1]⟩ : Shape).Idx → α) (h : (⟨3, ![a, b, 1]⟩ : Shape).Broadcasts ⟨3, ![a, b, c]⟩) (i : Fin a)
    (j : Fin b) (k : Fin c) : broadcastTo ⟨3, ![a, b, c]⟩ x h (ix3 i j k) = x (ix3 i j 0) := by
  apply broadcastTo_apply
  intro e
  match e with
  | ⟨0, _⟩ => exact val_ite i
  | ⟨1, _⟩ => exact val_ite j
  | ⟨2, _⟩ => exact (if_pos rfl).symm

/-- The middle axis repeated. -/
theorem broadcast_mid (x : (⟨3, ![a, 1, c]⟩ : Shape).Idx → α) (h : (⟨3, ![a, 1, c]⟩ : Shape).Broadcasts ⟨3, ![a, b, c]⟩) (i : Fin a)
    (j : Fin b) (k : Fin c) : broadcastTo ⟨3, ![a, b, c]⟩ x h (ix3 i j k) = x (ix3 i 0 k) := by
  apply broadcastTo_apply
  intro e
  match e with
  | ⟨0, _⟩ => exact val_ite i
  | ⟨1, _⟩ => exact (if_pos rfl).symm
  | ⟨2, _⟩ => exact val_ite k

/-- The first axis repeated. -/
theorem broadcast_first (x : (⟨3, ![1, b, c]⟩ : Shape).Idx → α) (h : (⟨3, ![1, b, c]⟩ : Shape).Broadcasts ⟨3, ![a, b, c]⟩) (i : Fin a)
    (j : Fin b) (k : Fin c) : broadcastTo ⟨3, ![a, b, c]⟩ x h (ix3 i j k) = x (ix3 0 j k) := by
  apply broadcastTo_apply
  intro e
  match e with
  | ⟨0, _⟩ => exact (if_pos rfl).symm
  | ⟨1, _⟩ => exact val_ite j
  | ⟨2, _⟩ => exact val_ite k

/-- A matrix transposed. -/
theorem transpose_swap (x : (⟨2, ![a, b]⟩ : Shape).Idx → α) {l : List (Fin 2)} (hl : l = [1, 0])
    (h : (⟨2, ![a, b]⟩ : Shape).Transposes l ⟨2, ![b, a]⟩) (i : Fin a) (j : Fin b) :
    transpose ⟨2, ![b, a]⟩ l x h (ix2 j i) = x (ix2 i j) := by
  subst hl
  apply transpose_apply
  intro e
  match e with
  | ⟨0, _⟩ => rfl
  | ⟨1, _⟩ => rfl

/-- The last two axes swapped. -/
theorem transpose_last (x : (⟨3, ![a, b, c]⟩ : Shape).Idx → α) {l : List (Fin 3)} (hl : l = [0, 2, 1])
    (h : (⟨3, ![a, b, c]⟩ : Shape).Transposes l ⟨3, ![a, c, b]⟩) (i : Fin a) (j : Fin b) (k : Fin c) :
    transpose ⟨3, ![a, c, b]⟩ l x h (ix3 i k j) = x (ix3 i j k) := by
  subst hl
  apply transpose_apply
  intro e
  match e with
  | ⟨0, _⟩ => rfl
  | ⟨1, _⟩ => rfl
  | ⟨2, _⟩ => rfl

/-- One block of the first axis. -/
theorem slice_block (o : ℕ) (x : (⟨3, ![a, b, c]⟩ : Shape).Idx → α) (h : (⟨3, ![a, b, c]⟩ : Shape).Slices ![o, 0, 0] ⟨3, ![1, b, c]⟩)
    (i : Fin a) (hi : i.val = o) (u : Fin 1) (j : Fin b) (k : Fin c) :
    extractStridedSlice ⟨3, ![1, b, c]⟩ ![o, 0, 0] x h (ix3 u j k) = x (ix3 i j k) := by
  apply extractStridedSlice_apply
  intro e
  match e with
  | ⟨0, _⟩ => show i.val = o + u.val; omega
  | ⟨1, _⟩ => show j.val = 0 + j.val; omega
  | ⟨2, _⟩ => show k.val = 0 + k.val; omega

/-- A run of rows. -/
theorem slice_rows (o : ℕ) (x : (⟨2, ![a, c]⟩ : Shape).Idx → α) (h : (⟨2, ![a, c]⟩ : Shape).Slices ![o, 0] ⟨2, ![b, c]⟩)
    (j : Fin b) (k : Fin c) (i : Fin a) (hi : i.val = o + j.val) :
    extractStridedSlice ⟨2, ![b, c]⟩ ![o, 0] x h (ix2 j k) = x (ix2 i k) := by
  apply extractStridedSlice_apply
  intro e
  match e with
  | ⟨0, _⟩ => exact hi
  | ⟨1, _⟩ => show k.val = 0 + k.val; omega

end Layout

/-! ## Sums over an axis and products of matrices -/

section Sums
variable {a b c k m n : ℕ}

/-- The sums of the rows of a matrix. -/
theorem sum_last2 (x : FVec Ideal ⟨2, ![a, b]⟩ .f32) {l : List (Fin 2)} (hl : l = [1])
    (h : (⟨2, ![a, b]⟩ : Shape).Reduces l ⟨1, ![a]⟩) (i : Fin a) : FloatOps.reduceAdd (F := Ideal) l h x (ix1 i) = ∑ j : Fin b, x (ix2 i j) := by
  subst hl
  refine (Ideal.multiReduction_add_single x 0x00000000#32 h (.inl rfl) rfl _).trans ?_
  refine Finset.sum_congr rfl fun j _ => congrArg x (funext fun e => Fin.ext ?_)
  match e with
  | ⟨0, _⟩ => rfl
  | ⟨1, _⟩ => rfl

/-- The sums over the last of three axes. -/
theorem sum_last3 (x : FVec Ideal ⟨3, ![a, b, c]⟩ .f32) {l : List (Fin 3)} (hl : l = [2])
    (h : (⟨3, ![a, b, c]⟩ : Shape).Reduces l ⟨2, ![a, b]⟩) (i : Fin a) (j : Fin b) :
    FloatOps.reduceAdd (F := Ideal) l h x (ix2 i j) = ∑ l : Fin c, x (ix3 i j l) := by
  subst hl
  refine (Ideal.multiReduction_add_single x 0x00000000#32 h (.inl rfl) rfl _).trans ?_
  refine Finset.sum_congr rfl fun l _ => congrArg x (funext fun e => Fin.ext ?_)
  match e with
  | ⟨0, _⟩ => rfl
  | ⟨1, _⟩ => rfl
  | ⟨2, _⟩ => rfl

/-- Rows times columns. -/
theorem matmul_rows {φ₁ φ₂ : FTy} (D : DotDims ⟨2, ![m, k]⟩ ⟨2, ![k, n]⟩ ⟨2, ![m, n]⟩)
    (wf : _) (hD : D = { lhsContracting := [1], rhsContracting := [0], lhsNonContracting := [0], rhsNonContracting := [1],
                         lhsBatch := [], rhsBatch := [], wf := wf })
    (x : FVec Ideal ⟨2, ![m, k]⟩ φ₁) (y : FVec Ideal ⟨2, ![k, n]⟩ φ₂) (i : Fin m) (j : Fin n) :
    matmul D none x y (constant ⟨2, ![m, n]⟩ .f32 0x00000000#32) (ix2 i j) = ∑ l : Fin k, x (ix2 i l) * y (ix2 l j) := by
  subst hD
  simp only [matmul]
  rw [Ideal.matmul_constant_zero_apply, ← Equiv.sum_comp (ValueIdx.contrEquiv1 _ k rfl rfl).symm]
  refine Finset.sum_congr rfl fun l _ => ?_
  have hl := ValueIdx.contrEquiv1_symm_val (⟨[1], [0], [0], [1], [], [], wf⟩ : DotDims _ _ ⟨2, ![m, n]⟩) k rfl rfl l
  congr 1
  · refine congrArg x (funext fun e => Fin.ext ?_)
    match e with
    | ⟨0, _⟩ => rfl
    | ⟨1, _⟩ => exact hl
  · refine congrArg y (funext fun e => Fin.ext ?_)
    match e with
    | ⟨0, _⟩ => exact hl
    | ⟨1, _⟩ => rfl

/-- Columns times columns. -/
theorem matmul_cols {φ₁ φ₂ : FTy} (D : DotDims ⟨2, ![k, m]⟩ ⟨2, ![k, n]⟩ ⟨2, ![m, n]⟩)
    (wf : _) (hD : D = { lhsContracting := [0], rhsContracting := [0], lhsNonContracting := [1], rhsNonContracting := [1],
                         lhsBatch := [], rhsBatch := [], wf := wf })
    (x : FVec Ideal ⟨2, ![k, m]⟩ φ₁) (y : FVec Ideal ⟨2, ![k, n]⟩ φ₂) (i : Fin m) (j : Fin n) :
    matmul D none x y (constant ⟨2, ![m, n]⟩ .f32 0x00000000#32) (ix2 i j) = ∑ l : Fin k, x (ix2 l i) * y (ix2 l j) := by
  subst hD
  simp only [matmul]
  rw [Ideal.matmul_constant_zero_apply, ← Equiv.sum_comp (ValueIdx.contrEquiv1 _ k rfl rfl).symm]
  refine Finset.sum_congr rfl fun l _ => ?_
  have hl := ValueIdx.contrEquiv1_symm_val (⟨[0], [0], [1], [1], [], [], wf⟩ : DotDims _ _ ⟨2, ![m, n]⟩) k rfl rfl l
  congr 1
  · refine congrArg x (funext fun e => Fin.ext ?_)
    match e with
    | ⟨0, _⟩ => exact hl
    | ⟨1, _⟩ => rfl
  · refine congrArg y (funext fun e => Fin.ext ?_)
    match e with
    | ⟨0, _⟩ => exact hl
    | ⟨1, _⟩ => rfl

/-- Rows times rows. -/
theorem matmul_rows_rows {φ₁ φ₂ : FTy} (D : DotDims ⟨2, ![m, k]⟩ ⟨2, ![n, k]⟩ ⟨2, ![m, n]⟩)
    (wf : _) (hD : D = { lhsContracting := [1], rhsContracting := [1], lhsNonContracting := [0], rhsNonContracting := [0],
                         lhsBatch := [], rhsBatch := [], wf := wf })
    (x : FVec Ideal ⟨2, ![m, k]⟩ φ₁) (y : FVec Ideal ⟨2, ![n, k]⟩ φ₂) (i : Fin m) (j : Fin n) :
    matmul D none x y (constant ⟨2, ![m, n]⟩ .f32 0x00000000#32) (ix2 i j) = ∑ l : Fin k, x (ix2 i l) * y (ix2 j l) := by
  subst hD
  simp only [matmul]
  rw [Ideal.matmul_constant_zero_apply, ← Equiv.sum_comp (ValueIdx.contrEquiv1 _ k rfl rfl).symm]
  refine Finset.sum_congr rfl fun l _ => ?_
  have hl := ValueIdx.contrEquiv1_symm_val (⟨[1], [1], [0], [0], [], [], wf⟩ : DotDims _ _ ⟨2, ![m, n]⟩) k rfl rfl l
  congr 1
  · refine congrArg x (funext fun e => Fin.ext ?_)
    match e with
    | ⟨0, _⟩ => rfl
    | ⟨1, _⟩ => exact hl
  · refine congrArg y (funext fun e => Fin.ext ?_)
    match e with
    | ⟨0, _⟩ => rfl
    | ⟨1, _⟩ => exact hl

end Sums

end Cert.Model

end
-- ==== Proof.Arrays.lean ====
/- The arguments of the two programs as real arrays, and the parameters, image features and text rows that they hold. -/
module

public import proofs.«01_k».proof.Proof.Basic

@[expose] public section

noncomputable section

namespace Cert.Model

open Idealize.ShloMosaic

/-- The arguments as real arrays, in the order of the programs' arguments. -/
structure Data where
  x0 : Fin 64 → Fin 576 → Fin 768 → ℝ
  x1 : Fin 64 → Fin 77 → Fin 768 → ℝ
  x2 : Fin 64 → Fin 768 → ℝ
  x3 : Fin 64 → ℝ
  x4 : Fin 768 → Fin 64 → ℝ
  x5 : Fin 768 → ℝ
  x6 : Fin 16 → Fin 64 → ℝ
  x7 : Fin 192 → Fin 64 → ℝ
  x8 : Fin 192 → ℝ
  x9 : Fin 64 → Fin 64 → ℝ
  x10 : Fin 64 → ℝ
  x11 : Fin 64 → ℝ
  x12 : Fin 64 → ℝ
  x13 : ℝ

/-- Row `d` of the first third of the input projection. -/
def first (d : Fin 64) : Fin 192 := ⟨d.val, by omega⟩
/-- Row `d` of the second third of the input projection. -/
def second (d : Fin 64) : Fin 192 := ⟨64 + d.val, by omega⟩
/-- Row `d` of the last third of the input projection. -/
def third (d : Fin 64) : Fin 192 := ⟨128 + d.val, by omega⟩
/-- The text features that the scores read: the first 64 of 768. -/
def lead (d : Fin 64) : Fin 768 := ⟨d.val, by omega⟩

/-- The parameters that the arguments hold. -/
def Data.params (D : Data) : Params :=
  ⟨D.x2, D.x3, D.x4, D.x5, D.x6, ⟨D.x11, D.x12, fun d k => D.x7 (first d) k, fun d => D.x8 (first d), fun d k => D.x7 (second d) k,
    fun d => D.x8 (second d), fun d k => D.x7 (third d) k, fun d => D.x8 (third d), D.x9, D.x10⟩, D.x13⟩

/-- The text row of image `i` that the scores read. -/
def Data.text (D : Data) (i : Fin 64) (d : Fin 64) : ℝ := D.x1 i 0 (lead d)

/-- The result of the problem for image `i`. -/
def Data.out (D : Data) (i : Fin 64) (n : Fin 576) (e : Fin 768) : ℝ := D.params.out (D.x0 i) (D.text i) n e

/-- No two selected tokens of an image have the same score. -/
def Data.Untied (D : Data) : Prop := ∀ i, Model.Untied (D.params.scores (D.x0 i) (D.text i))

/-- The arrays hold the real data. -/
structure Data.Holds (D : Data) (a0 : Vec Ideal ⟨3, ![64, 576, 768]⟩ .f32) (a1 : Vec Ideal ⟨3, ![64, 77, 768]⟩ .f32)
    (a2 : Vec Ideal ⟨2, ![64, 768]⟩ .f32) (a3 : Vec Ideal ⟨1, ![64]⟩ .f32) (a4 : Vec Ideal ⟨2, ![768, 64]⟩ .f32)
    (a5 : Vec Ideal ⟨1, ![768]⟩ .f32) (a6 : Vec Ideal ⟨3, ![1, 16, 64]⟩ .f32) (a7 : Vec Ideal ⟨2, ![192, 64]⟩ .f32)
    (a8 : Vec Ideal ⟨1, ![192]⟩ .f32) (a9 : Vec Ideal ⟨2, ![64, 64]⟩ .f32) (a10 a11 a12 : Vec Ideal ⟨1, ![64]⟩ .f32)
    (a13 : Vec Ideal ⟨0, ![]⟩ .f32) : Prop where
  h0 : ∀ i n c, a0 (ix3 i n c) = D.x0 i n c
  h1 : ∀ i t c, a1 (ix3 i t c) = D.x1 i t c
  h2 : ∀ d c, a2 (ix2 d c) = D.x2 d c
  h3 : ∀ d, a3 (ix1 d) = D.x3 d
  h4 : ∀ e d, a4 (ix2 e d) = D.x4 e d
  h5 : ∀ e, a5 (ix1 e) = D.x5 e
  h6 : ∀ q d, a6 (ix3 0 q d) = D.x6 q d
  h7 : ∀ r k, a7 (ix2 r k) = D.x7 r k
  h8 : ∀ r, a8 (ix1 r) = D.x8 r
  h9 : ∀ d k, a9 (ix2 d k) = D.x9 d k
  h10 : ∀ d, a10 (ix1 d) = D.x10 d
  h11 : ∀ d, a11 (ix1 d) = D.x11 d
  h12 : ∀ d, a12 (ix1 d) = D.x12 d
  h13 : a13 ix0 = D.x13

end Cert.Model
-- ==== Proof.KernelScores.lean ====
/- What a grid point of the kernel computes for its eight images before the attention: activations, ranks, and the
   one-hot rows made of the ranks. -/
module

public import proofs.«01_k».proof.Proof.Basic
public import proofs.«01_k».proof.Proof.Gen.KernelIdeal.Skeleton

@[expose] public section

noncomputable section

namespace Cert.KernelIdeal.Block

open Cert.KernelIdeal Cert.KernelIdeal.Gen Idealize.ShloMosaic Cert.Model

/-- The activations of the eight images. -/
theorem acts_apply {x0 : Vec Ideal S8x576x768 .f32} {x2 : Vec Ideal S768x64 .f32} {x3 : Vec Ideal S1x64 .f32}
    {I : Fin 8 → Fin 576 → Fin 768 → ℝ} {wd : Fin 64 → Fin 768 → ℝ} {bd : Fin 64 → ℝ}
    (h0 : ∀ b n c, x0 (ix3 b n c) = I b n c) (h2 : ∀ c d, x2 (ix2 c d) = wd d c) (h3 : ∀ d, x3 (ix2 0 d) = bd d)
    (b : Fin 8) (n : Fin 576) (d : Fin 64) : k0_pay2 x0 x2 x3 (ix3 b n d) = act wd bd (I b n) d := by
  unfold k0_pay2
  rw [shapeCast_2_3 _ _ b n d ⟨b.val * 576 + n.val, by omega⟩ rfl]
  simp only [ValueIdx.mulf_apply, ValueIdx.addf_apply, matmul_rows dot_S4608x768_S768x64_S4608x64_1_0_0_1_n_n _ rfl,
    broadcast_row, shapeCast_self, h3,
    shapeCast_3_2 x0 shapeCasts_S8x576x768_S4608x768 b n _ ⟨b.val * 576 + n.val, by omega⟩ rfl, h0, h2, ← EReal.coe_mul,
    splat_apply, erf_apply, coe_sum, ← EReal.coe_add, scalar_apply, bits_half, bits_one, bits_rootHalf, coe_erf]
  rfl

/-- The kernel's score of a token: the division by the token's norm follows the sum. -/
theorem score_eq (x s : Fin 64 → ℝ) : (∑ d, x d * (s d / rowNorm s)) / rowNorm x = score x s := by
  unfold score
  rw [Finset.sum_div]
  exact Finset.sum_congr rfl fun d _ => by ring

/-- The ranks of the eight images' tokens. -/
theorem rank_apply {a : FVec Ideal S8x576x64 .f32} {x1 : Vec Ideal S8x1x64 .f32} {A : Fin 8 → Fin 576 → Fin 64 → ℝ}
    {S : Fin 8 → Fin 64 → ℝ} (ha : ∀ b n d, a (ix3 b n d) = A b n d) (h1 : ∀ b d, x1 (ix3 b 0 d) = S b d) (b : Fin 8)
    (n : Fin 576) (u : Fin 1) : k0_pay23 a x1 (ix3 b n u) = ((rank (fun j => score (A b j) (S b)) n : ℝ) : EReal) := by
  have hsq : ∀ x : Fin 64 → ℝ, 0 ≤ ∑ d, x d * x d := fun x => Finset.sum_nonneg fun d _ => mul_self_nonneg _
  have hn : ∀ x : Fin 64 → ℝ, max (Real.sqrt (∑ d, x d * x d)) tiny ≠ 0 := fun x => (rowNorm_pos x).ne'
  unfold k0_pay23
  simp only [multiReduction, shapeCast_cols, sum_last3, flag_apply, cmpf_apply, broadcast_mid, broadcast_last, transpose_last,
    ValueIdx.divf_apply, ValueIdx.maximumf_apply, sqrt_apply, splat_apply, ValueIdx.mulf_apply, shapeCast_self, ha, h1,
    scalar_apply, bits_tiny, ← EReal.coe_mul, coe_sum, coe_sqrt (hsq _), coe_max, coe_div (hn _), coe_gt]
  have hif : ∀ (p : Prop) [Decidable p], ((if p then 1#1 else 0#1) = 1#1) = p := fun p _ => by by_cases h : p <;> simp [h]
  simp only [hif, sum_flag]
  simp only [← score_eq]
  rfl

/-- The lane numbers as floats. -/
theorem lane_apply (b : Fin 8) (n : Fin 576) (r : Fin 64) :
    k0_pay25 (F := Ideal) k0_pay4 (ix3 b n r) = ((r.val : ℝ) : EReal) := by
  unfold k0_pay25 k0_pay4
  simp only [broadcast_first]
  rw [sitofp_apply, iota_single_apply]
  show (((BitVec.ofNat 32 r.val).toInt : ℝ) : EReal) = _
  rw [toInt_ofNat (by omega)]
  simp

/-- The one-hot row of a token's rank. -/
theorem onehot_apply {a : FVec Ideal S8x576x64 .f32} {x1 : Vec Ideal S8x1x64 .f32} {R : Fin 8 → Fin 576 → ℕ}
    (hr : ∀ b n, k0_pay23 a x1 (ix3 b n 0) = ((R b n : ℝ) : EReal)) (b : Fin 8) (n : Fin 576) (r : Fin 64) :
    k0_pay26 (k0_pay24 a x1) (k0_pay25 k0_pay4) (ix3 b n r) = ((if R b n = r.val then 1 else 0 : ℝ) : EReal) := by
  unfold k0_pay26 k0_pay24
  simp only [flag_apply, cmpf_apply, broadcast_last, hr, lane_apply, coe_oeq]
  by_cases h : R b n = r.val <;> simp [h]

/-- The row of a token that adds its update and the shared row 64. -/
theorem scatterRow_apply {a : FVec Ideal S8x576x64 .f32} {x1 : Vec Ideal S8x1x64 .f32} {R : Fin 8 → Fin 576 → ℕ}
    (hr : ∀ b n, k0_pay23 a x1 (ix3 b n 0) = ((R b n : ℝ) : EReal)) (b : Fin 8) (n : Fin 576) (k : Fin 72) :
    k0_pay27 (k0_pay23 a x1) (ix3 b n k) = ((if (R b n = k.val ∧ k.val < 64) ∨ k.val = 64 then 1 else 0 : ℝ) : EReal) := by
  unfold k0_pay27
  simp only [truncf_apply, flag_apply]
  have hl : iota .tc S1x576x72 32 [2] iota_S1x576x72_d2_w32 (ix3 0 n k) = BitVec.ofNat 32 k.val := iota_single_apply ..
  have hslt : ∀ k : Fin 72, IntOp.cmpi .slt (BitVec.ofNat 32 k.val) 64#32 = if k.val < 64 then 1#1 else 0#1 := by
    decide +kernel
  have heq : ∀ k : Fin 72, IntOp.cmpi .eq (BitVec.ofNat 32 k.val) 64#32 = if k.val = 64 then 1#1 else 0#1 := by
    decide +kernel
  simp only [ori_apply, andi_apply, cmpf_apply, broadcast_last, broadcast_first, hr, sitofp_apply, cmpi_apply, hl, splat_apply,
    hslt, heq, toInt_ofNat (show k.val < 2 ^ 31 by omega), Int.cast_natCast, coe_oeq, Nat.cast_inj]
  by_cases h1 : R b n = k.val <;> by_cases h2 : k.val < 64 <;> by_cases h3 : k.val = 64 <;> simp [h1, h2, h3]

end Cert.KernelIdeal.Block

end
-- ==== Proof.KernelRows.lean ====
/- The rows that one image of the kernel attends over, their layer normalisation, and the three linear layers. -/
module

public import proofs.«01_k».proof.Proof.KernelScores

@[expose] public section

noncomputable section

namespace Cert.KernelIdeal.Block

open Cert.KernelIdeal Cert.KernelIdeal.Gen Idealize.ShloMosaic Cert.Model

/-- The gathered rows of image `o`, in the kernel's operations. -/
def gathered (o : ℕ) (hs : S8x576x64.Slices ![o, 0, 0] S1x576x64) (v17 v228 : FVec Ideal S8x576x64 .f32) (v250 : Vec Ideal S16x64 .f32) :
    FVec Ideal S80x64 .f32 :=
  concatenate S80x64 0
    [⟨S16x64, shapeCast S16x64 v250 shapeCasts_S16x64_S16x64⟩,
     ⟨S64x64, matmul (φ₁ := .f32) (φ₂ := .f32) dot_S576x64_S576x64_S64x64_0_0_1_1_n_n none
        (shapeCast S576x64 (extractStridedSlice S1x576x64 ![o, 0, 0] v228 hs) shapeCasts_S1x576x64_S576x64)
        (shapeCast S576x64 (extractStridedSlice S1x576x64 ![o, 0, 0] v17 hs) shapeCasts_S1x576x64_S576x64)
        (constant S64x64 .f32 0x00000000#32)⟩]
    concatenates_S16x64_S64x64_S80x64_d0

/-- The gathered rows are the learned queries and the chosen tokens. -/
theorem gathered_apply {v17 v228 : FVec Ideal S8x576x64 .f32} {v250 : Vec Ideal S16x64 .f32} {o : ℕ}
    {hs : S8x576x64.Slices ![o, 0, 0] S1x576x64} {b : Fin 8} (ho : b.val = o) {A : Fin 576 → Fin 64 → ℝ} {mq : Fin 16 → Fin 64 → ℝ}
    {p : Fin 64 → Fin 576} (ha : ∀ n d, v17 (ix3 b n d) = A n d)
    (hh : ∀ n r, v228 (ix3 b n r) = ((if n = p r then 1 else 0 : ℝ) : EReal)) (hq : ∀ i d, v250 (ix2 i d) = mq i d)
    (j : Fin 80) (d : Fin 64) : gathered o hs v17 v228 v250 (ix2 j d) = rows mq A p j d := by
  unfold gathered rows
  by_cases h : j.val < 16
  · rw [dif_pos h, shapeCast_self]
    refine (concatenate_pair_apply_left (t := S80x64) (s₁ := S16x64) (s₂ := S64x64) 0 _ _ _ (ix2 j d) rfl
      (ix2 (⟨j.val, h⟩ : Fin 16) d) ?_).trans (hq _ _)
    intro e
    match e with
    | ⟨0, _⟩ => rfl
    | ⟨1, _⟩ => rfl
  · rw [dif_neg h]
    refine (concatenate_pair_apply_right (t := S80x64) (s₁ := S16x64) (s₂ := S64x64) 0 _ _ _ (ix2 j d) rfl rfl
      (ix2 (⟨j.val - 16, by omega⟩ : Fin 64) d) ?_ ?_).trans ?_
    · intro e he
      match e with
      | ⟨0, _⟩ => exact absurd rfl he
      | ⟨1, _⟩ => rfl
    · show j.val - 16 + 16 = j.val
      omega
    · simp only [matmul_cols dot_S576x64_S576x64_S64x64_0_0_1_1_n_n _ rfl, shapeCast_drop, slice_block o _ hs b ho, ha, hh,
        ← EReal.coe_mul, coe_sum]
      simp

variable {c : FVec Ideal S80x64 .f32} {C : Fin 80 → Fin 64 → ℝ}

/-- The rows less their mean and over their deviation, in the kernel's operations. -/
def normalised (c : FVec Ideal S80x64 .f32) : FVec Ideal S80x64 .f32 :=
  have v254 : FVec Ideal S80x1 .f32 := shapeCast S80x1 (multiReduction .add [1] S80 c 0x00000000#32 reduces_S80x64_S80 (.inl rfl) rfl) shapeCasts_S80_S80x1
  have v256 : FVec Ideal S80x1 .f32 := divf v254 (broadcast S80x1 (Scalar.ofBits .f32 0x42800000#32))
  have v258 : FVec Ideal S80x64 .f32 := subf c (broadcastTo S80x64 v256 broadcasts_S80x1_S80x64)
  have v261 : FVec Ideal S80x1 .f32 :=
    shapeCast S80x1 (multiReduction .add [1] S80 (mulf v258 v258) 0x00000000#32 reduces_S80x64_S80 (.inl rfl) rfl) shapeCasts_S80_S80x1
  have v263 : FVec Ideal S80x1 .f32 := divf v261 (broadcast S80x1 (Scalar.ofBits .f32 0x42800000#32))
  have v268 : FVec Ideal S80x1 .f32 := rsqrt (addf v263 (broadcast S80x1 (Scalar.ofBits .f32 0x3727C5AC#32)))
  mulf v258 (broadcastTo S80x64 v268 broadcasts_S80x1_S80x64)

/-- The rows less their mean and over their deviation. -/
theorem normalised_apply (hc : ∀ j d, c (ix2 j d) = C j d) (j : Fin 80) (d : Fin 64) :
    normalised c (ix2 j d) = (((C j d - mean (C j)) / Real.sqrt (var (C j) + eps) : ℝ) : EReal) := by
  have h64 : (64 : ℝ) ≠ 0 := by norm_num
  unfold normalised
  simp only [multiReduction, ValueIdx.mulf_apply, ValueIdx.subf_apply, ValueIdx.divf_apply, ValueIdx.addf_apply, broadcast_col,
    shapeCast_col, rsqrt_apply, splat_apply, sum_last2, hc, coe_sum, scalar_apply, bits_sixtyFour, bits_eps, coe_div h64,
    ← EReal.coe_sub, ← EReal.coe_mul, ← EReal.coe_add]
  refine (congrArg _ (coe_rsqrt (var_eps_pos (C j)))).trans ?_
  rw [← EReal.coe_mul, div_eq_mul_inv]
  rfl

/-- Layer normalisation, in the kernel's operations. -/
theorem layerNorm_apply {W : Weights} (hc : ∀ j d, c (ix2 j d) = C j d) {x15 x16 : Vec Ideal S1x64 .f32}
    (hw : ∀ d, x15 (ix2 0 d) = W.lw d) (hb : ∀ d, x16 (ix2 0 d) = W.lb d) (j : Fin 80) (d : Fin 64) :
    k0_pay31 (normalised c) (k0_pay30 x15) x16 (ix2 j d) = layerNorm W (C j) d := by
  unfold k0_pay31 k0_pay30
  simp only [ValueIdx.mulf_apply, ValueIdx.addf_apply, broadcast_row, shapeCast_self, normalised_apply hc, hw, hb,
    ← EReal.coe_mul, ← EReal.coe_add]
  rfl

/-- A linear layer of the normalised rows, in the kernel's operations. -/
theorem linear_apply {W : Weights} (hc : ∀ j d, c (ix2 j d) = C j d) {x15 x16 : Vec Ideal S1x64 .f32}
    (hw : ∀ d, x15 (ix2 0 d) = W.lw d) (hb : ∀ d, x16 (ix2 0 d) = W.lb d) {w : Fin 64 → Fin 64 → ℝ} {b : Fin 64 → ℝ}
    {y : Vec Ideal S64x64 .f32} {z : Vec Ideal S1x64 .f32} (hy : ∀ k d, y (ix2 k d) = w d k) (hz : ∀ d, z (ix2 0 d) = b d)
    (j : Fin 80) (d : Fin 64) : k0_pay32 (normalised c) (k0_pay30 x15) x16 y z (ix2 j d) = linear w b (layerNorm W (C j)) d := by
  unfold k0_pay32
  simp only [ValueIdx.addf_apply, matmul_rows dot_S80x64_S64x64_S80x64_1_0_0_1_n_n _ rfl, broadcast_row, shapeCast_self,
    layerNorm_apply hc hw hb, hy, hz, ← EReal.coe_mul, coe_sum, ← EReal.coe_add]
  rfl

end Cert.KernelIdeal.Block

end
-- ==== Proof.KernelMasks.lean ====
/- The constant masks of the kernel: which lane belongs to which head, and which row and column of the stacked scores
   belong to the same head. -/
module

public import proofs.«01_k».proof.Proof.Basic
public import proofs.«01_k».proof.Proof.Gen.KernelIdeal.Skeleton

@[expose] public section

noncomputable section

namespace Cert.KernelIdeal.Block

open Cert.KernelIdeal Cert.KernelIdeal.Gen Idealize.ShloMosaic Cert.Model

/-- Division rounding down, in words: the truncating quotient, less one when the signs differ and the remainder is not zero. -/
def quot (c v : BitVec 32) : BitVec 32 :=
  Scalar.select
    (IntOp.cmpi .ne ((IntOp.cmpi .sgt v 0#32).setWidth 32 - (IntOp.cmpi .slt v 0#32).setWidth 32)
        ((IntOp.cmpi .sgt c 0#32).setWidth 32 - (IntOp.cmpi .slt c 0#32).setWidth 32)
      &&& IntOp.cmpi .ne (IntOp.remsi .vector v c) 0#32)
    (IntOp.divsi .vector v c - 1#32) (IntOp.divsi .vector v c)

/-- The head of a feature, by integer division. -/
theorem quot_lane : ∀ d : Fin 64, quot 16#32 (BitVec.ofNat 32 d.val) = BitVec.ofNat 32 (d.val / 16) := by decide +kernel
/-- The head of a stacked row, by integer division. -/
theorem quot_row : ∀ i : Fin 320, quot 80#32 (BitVec.ofNat 32 i.val) = BitVec.ofNat 32 (i.val / 80) := by decide +kernel

/-- The numbers of the features. -/
theorem lane_iota (d : Fin 64) : iota .tc S1x64 32 [1] iota_S1x64_d1_w32 (ix2 0 d) = BitVec.ofNat 32 d.val := iota_single_apply ..

/-- A lane's truth value of belonging to head `h`. -/
theorem lane_flag (h : Fin 4) (d : Fin 64) (v : IVec S1x64 32) (hv : v (ix2 0 d) = quot 16#32 (iota .tc S1x64 32 [1] iota_S1x64_d1_w32 (ix2 0 d))) :
    (sitofp .f32 (extui 32 (cmpi .eq v (broadcast S1x64 (BitVec.ofNat 32 h.val))) natLt_1_32) (ix2 0 d) : Ideal .f32)
      = ((if head d = h then 1 else 0 : ℝ) : EReal) := by
  have key : ∀ (d : Fin 64) (h : Fin 4), (IntOp.cmpi .eq (BitVec.ofNat 32 (d.val / 16)) (BitVec.ofNat 32 h.val) = 1#1) = (head d = h) := by
    intro d h
    apply propext
    revert d h
    decide +kernel
  rw [flag_apply, cmpi_apply, splat_apply, hv, lane_iota, quot_lane]
  simp only [key]

/-- The lanes of head 0 … -/
theorem mask0_apply (d : Fin 64) : k0_pay8 (F := Ideal) k0_pay5 k0_pay6 k0_pay7 (ix2 0 d) = ((if head d = 0 then 1 else 0 : ℝ) : EReal) :=
  lane_flag 0 d _ rfl
/-- … of head 1 … -/
theorem mask1_apply (d : Fin 64) :
    k0_pay9 (F := Ideal) (iota .tc S1x64 32 [1] iota_S1x64_d1_w32) (ix2 0 d) = ((if head d = 1 then 1 else 0 : ℝ) : EReal) :=
  lane_flag 1 d _ rfl
/-- … of head 2 … -/
theorem mask2_apply (d : Fin 64) :
    k0_pay13 (F := Ideal) (iota .tc S1x64 32 [1] iota_S1x64_d1_w32) 16#32 (k0_pay10 (iota .tc S1x64 32 [1] iota_S1x64_d1_w32))
        (k0_pay11 (iota .tc S1x64 32 [1] iota_S1x64_d1_w32)) (k0_pay12 (iota .tc S1x64 32 [1] iota_S1x64_d1_w32)) (ix2 0 d)
      = ((if head d = 2 then 1 else 0 : ℝ) : EReal) :=
  lane_flag 2 d _ rfl
/-- … and of head 3. -/
theorem mask3_apply (d : Fin 64) :
    k0_pay15 (F := Ideal) (k0_pay14 (iota .tc S1x64 32 [1] iota_S1x64_d1_w32)) (ix2 0 d) = ((if head d = 3 then 1 else 0 : ℝ) : EReal) :=
  lane_flag 3 d _ rfl

/-- Zero where row and column of the stacked scores belong to the same head, `⊥` elsewhere. -/
theorem sameHead_apply (i j : Fin 320) :
    k0_pay20 (F := Ideal) k0_pay16 k0_pay17 k0_pay18 k0_pay19 (ix2 i j) = if i.val / 80 = j.val / 80 then 0 else ⊥ := by
  have hi : k0_pay16 (ix2 i j) = quot 80#32 (iota .tc S320x320 32 [0] iota_S320x320_d0_w32 (ix2 i j)) := rfl
  have hj : select (andi k0_pay18 k0_pay19) (subi k0_pay17 (broadcast S320x320 1#32)) k0_pay17 (ix2 i j)
      = quot 80#32 (iota .tc S320x320 32 [1] iota_S320x320_d1_w32 (ix2 i j)) := rfl
  have h0 : iota .tc S320x320 32 [0] iota_S320x320_d0_w32 (ix2 i j) = BitVec.ofNat 32 i.val := iota_single_apply ..
  have h1 : iota .tc S320x320 32 [1] iota_S320x320_d1_w32 (ix2 i j) = BitVec.ofNat 32 j.val := iota_single_apply ..
  have key : ∀ a b : Fin 4, (IntOp.cmpi .eq (BitVec.ofNat 32 a.val) (BitVec.ofNat 32 b.val) = 1#1) = (a.val = b.val) := by
    intro a b
    apply propext
    revert a b
    decide +kernel
  have key' : (IntOp.cmpi .eq (BitVec.ofNat 32 (i.val / 80)) (BitVec.ofNat 32 (j.val / 80)) = 1#1) = (i.val / 80 = j.val / 80) :=
    key ⟨i.val / 80, by omega⟩ ⟨j.val / 80, by omega⟩
  show Scalar.select (IntOp.cmpi .eq (k0_pay16 (ix2 i j)) (select (andi k0_pay18 k0_pay19) (subi k0_pay17 (broadcast S320x320 1#32)) k0_pay17 (ix2 i j)))
    (Ideal.ofBits .f32 0x00000000#32) (⊥ : EReal) = _
  rw [hi, hj, h0, h1, quot_row, quot_row]
  unfold Scalar.select
  by_cases h : i.val / 80 = j.val / 80
  · rw [if_pos h]
    exact (if_pos (key'.mpr h)).trans Ideal.ofBits_zero_f32
  · rw [if_neg h]
    exact if_neg fun hc => h (key'.mp hc)

end Cert.KernelIdeal.Block

end
-- ==== Proof.KernelAttention.lean ====
/- The attention of one image in the kernel: four heads stacked into one product of 320 rows, cut apart again by masks. -/
module

public import proofs.«01_k».proof.Proof.KernelRows
public import proofs.«01_k».proof.Proof.KernelMasks

@[expose] public section

noncomputable section

namespace Cert.KernelIdeal.Block

open Cert.KernelIdeal Cert.KernelIdeal.Gen Idealize.ShloMosaic Cert.Model

/-- Row `j` of head `h` in the stack. -/
def stacked (h : Fin 4) (j : Fin 80) : Fin 320 := ⟨80 * h.val + j.val, by omega⟩

/-- A sum over the stacked rows is one over heads and rows. -/
theorem sum_stacked (f : Fin 320 → ℝ) : ∑ i, f i = ∑ h, ∑ j, f (stacked h j) := by
  rw [← Fintype.sum_prod_type']
  refine (Fintype.sum_equiv (finProdFinEquiv (m := 4) (n := 80)) _ _ fun x => ?_).symm
  refine congrArg f (Fin.ext ?_)
  show 80 * x.1.val + x.2.val = x.2.val + 80 * x.1.val
  omega

/-- Every stacked row is one of a head. -/
theorem exists_stacked (i : Fin 320) : ∃ h j, i = stacked h j :=
  ⟨⟨i.val / 80, by omega⟩, ⟨i.val % 80, by omega⟩, Fin.ext (by show i.val = 80 * (i.val / 80) + i.val % 80; omega)⟩

/-- Four pieces on top of each other. -/
def stack (x0 x1 x2 x3 : FVec Ideal S80x64 .f32) : FVec Ideal S320x64 .f32 :=
  concatenate S320x64 0 [⟨S80x64, x0⟩, ⟨S80x64, x1⟩, ⟨S80x64, x2⟩, ⟨S80x64, x3⟩]
    concatenates_S80x64_S80x64_S80x64_S80x64_S320x64_d0

/-- Four blocks stacked, read at a row. -/
theorem stack_apply (x0 x1 x2 x3 : FVec Ideal S80x64 .f32) (h : Fin 4) (j : Fin 80) (d : Fin 64) :
    stack x0 x1 x2 x3 (ix2 (stacked h j) d) = (![x0, x1, x2, x3] : Fin 4 → FVec Ideal S80x64 .f32) h (ix2 j d) := by
  refine concatenate_ofFn_apply (t := S320x64) (s₁ := S80x64) 0 (![x0, x1, x2, x3] : Fin 4 → FVec Ideal S80x64 .f32)
    concatenates_S80x64_S80x64_S80x64_S80x64_S320x64_d0 rfl 80 rfl (ix2 (stacked h j) d) h ?_ (ix2 j d) ?_ ?_
  · show (80 * h.val + j.val) / 80 = h.val
    omega
  · show j.val = (80 * h.val + j.val) % 80
    omega
  · intro e he
    match e with
    | ⟨0, _⟩ => exact absurd rfl he
    | ⟨1, _⟩ => rfl

/-- The rows of a piece masked to the lanes of one head. -/
def masked (x : FVec Ideal S80x64 .f32) (m : FVec Ideal S1x64 .f32) : FVec Ideal S80x64 .f32 :=
  mulf x (broadcastTo S80x64 m broadcasts_S1x64_S80x64)

/-- A mask times one quarter. -/
def quarter (m : FVec Ideal S1x64 .f32) : FVec Ideal S1x64 .f32 := mulf (broadcast S1x64 (Scalar.ofBits .f32 0x3E800000#32)) m

/-- The exponentials of the stacked scores. -/
def expScores (q k : FVec Ideal S320x64 .f32) (s : FVec Ideal S320x320 .f32) : FVec Ideal S320x320 .f32 :=
  exp (addf (matmul dot_S320x64_S320x64_S320x320_1_1_0_0_n_n none q k (constant S320x320 .f32 0x00000000#32)) s)

/-- Each row over its sum. -/
def overSum (e : FVec Ideal S320x320 .f32) : FVec Ideal S320x320 .f32 :=
  divf e (broadcastTo S320x320
    (shapeCast S320x1 (multiReduction .add [1] S320 e 0x00000000#32 reduces_S320x320_S320 (.inl rfl) rfl) shapeCasts_S320_S320x1)
    broadcasts_S320x1_S320x320)

/-- The four heads' rows added up. -/
def unstack (x : FVec Ideal S320x64 .f32) : FVec Ideal S80x64 .f32 :=
  addf (addf (addf (extractStridedSlice S80x64 ![0, 0] x slices_S320x64_o0_0_S80x64)
    (extractStridedSlice S80x64 ![80, 0] x slices_S320x64_o80_0_S80x64))
    (extractStridedSlice S80x64 ![160, 0] x slices_S320x64_o160_0_S80x64))
    (extractStridedSlice S80x64 ![240, 0] x slices_S320x64_o240_0_S80x64)

/-- The kernel's attention of one image in these pieces. -/
def attended (m0 m1 m2 m3 : FVec Ideal S1x64 .f32) (s : FVec Ideal S320x320 .f32) (q k v : FVec Ideal S80x64 .f32) : FVec Ideal S80x64 .f32 :=
  unstack (matmul (φ₁ := .f32) (φ₂ := .f32) dot_S320x320_S320x64_S320x64_1_0_0_1_n_n none
    (overSum (expScores (stack (masked q (quarter m0)) (masked q (quarter m1)) (masked q (quarter m2)) (masked q (quarter m3)))
      (stack (masked k m0) (masked k m1) (masked k m2) (masked k m3)) s))
    (stack (masked v m0) (masked v m1) (masked v m2) (masked v m3)) (constant S320x64 .f32 0x00000000#32))

/-- The attention of one image as the steps read below. -/
theorem pay39_eq (m0 m1 m2 m3 : FVec Ideal S1x64 .f32) (s : FVec Ideal S320x320 .f32) (c q k v : FVec Ideal S80x64 .f32)
    (wo : Vec Ideal S64x64 .f32) (bo : Vec Ideal S1x64 .f32) (wu : Vec Ideal S64x768 .f32) :
    k0_pay39 m0 m1 m2 m3 s c q k v (masked q (quarter m0)) (masked q (quarter m1)) (masked q (quarter m2)) k0_pay38 wo bo wu
      = matmul (φ₁ := .f32) (φ₂ := .f32) dot_S64x64_S64x768_S64x768_1_0_0_1_n_n none
          (extractStridedSlice S64x64 ![16, 0]
            (addf c (addf (matmul (φ₁ := .f32) (φ₂ := .f32) dot_S80x64_S64x64_S80x64_1_0_0_1_n_n none (attended m0 m1 m2 m3 s q k v)
                (shapeCast S64x64 wo shapeCasts_S64x64_S64x64) (constant S80x64 .f32 0x00000000#32))
              (broadcastTo S80x64 (shapeCast S1x64 bo shapeCasts_S1x64_S1x64) broadcasts_S1x64_S80x64)))
            slices_S80x64_o16_0_S64x64)
          (shapeCast S64x768 wu shapeCasts_S64x768_S64x768) (constant S64x768 .f32 0x00000000#32) := rfl

section Values

variable {m : Fin 4 → FVec Ideal S1x64 .f32} {s : FVec Ideal S320x320 .f32} {q k v : FVec Ideal S80x64 .f32} {Q K V : Fin 80 → Fin 64 → ℝ}

/-- Rows times a mask of features. -/
theorem masked_apply {x : FVec Ideal S80x64 .f32} {X : Fin 80 → Fin 64 → ℝ} (hx : ∀ j d, x (ix2 j d) = X j d) {m : FVec Ideal S1x64 .f32}
    {M : Fin 64 → ℝ} (hm : ∀ d, m (ix2 0 d) = M d) (j : Fin 80) (d : Fin 64) : masked x m (ix2 j d) = ((X j d * M d : ℝ) : EReal) := by
  unfold masked
  rw [ValueIdx.mulf_apply, broadcast_row, hx, hm, ← EReal.coe_mul]

/-- A mask times one quarter. -/
theorem quarter_apply {m : FVec Ideal S1x64 .f32} {M : Fin 64 → ℝ} (hm : ∀ d, m (ix2 0 d) = M d) (d : Fin 64) :
    quarter m (ix2 0 d) = ((1 / 4 * M d : ℝ) : EReal) := by
  unfold quarter
  rw [ValueIdx.mulf_apply, splat_apply, scalar_apply, bits_quarter, hm, ← EReal.coe_mul]

/-- A stack of masked rows. -/
theorem stack_masked_apply {x : FVec Ideal S80x64 .f32} {X : Fin 80 → Fin 64 → ℝ} (hx : ∀ j d, x (ix2 j d) = X j d)
    {m : Fin 4 → FVec Ideal S1x64 .f32} {M : Fin 4 → Fin 64 → ℝ} (hm : ∀ h d, m h (ix2 0 d) = M h d) (h : Fin 4) (j : Fin 80) (d : Fin 64) :
    stack (masked x (m 0)) (masked x (m 1)) (masked x (m 2)) (masked x (m 3)) (ix2 (stacked h j) d) = ((X j d * M h d : ℝ) : EReal) := by
  rw [stack_apply]
  match h with
  | 0 => exact masked_apply hx (hm 0) j d
  | 1 => exact masked_apply hx (hm 1) j d
  | 2 => exact masked_apply hx (hm 2) j d
  | 3 => exact masked_apply hx (hm 3) j d

/-- The exponentials of the masked scores: weights inside a head and zero across heads. -/
theorem expScores_apply {q k : FVec Ideal S320x64 .f32} (hq : ∀ h j d, q (ix2 (stacked h j) d) = ((Q j d * (1 / 4 * if head d = h then 1 else 0) : ℝ) : EReal))
    (hk : ∀ h j d, k (ix2 (stacked h j) d) = ((K j d * if head d = h then 1 else 0 : ℝ) : EReal))
    (hs : ∀ i j, s (ix2 i j) = if i.val / 80 = j.val / 80 then 0 else ⊥) (h h' : Fin 4) (j j' : Fin 80) :
    expScores q k s (ix2 (stacked h j) (stacked h' j')) = ((if h = h' then weight (Q j) (K j') h else 0 : ℝ) : EReal) := by
  unfold expScores
  rw [exp_apply, ValueIdx.addf_apply, matmul_rows_rows dot_S320x64_S320x64_S320x320_1_1_0_0_n_n _ rfl, hs]
  have h1 : (stacked h j).val / 80 = h.val := by show (80 * h.val + j.val) / 80 = h.val; omega
  have h2 : (stacked h' j').val / 80 = h'.val := by show (80 * h'.val + j'.val) / 80 = h'.val; omega
  rw [h1, h2]
  by_cases hh : h = h'
  · subst hh
    rw [if_pos rfl, if_pos rfl, add_zero, weight_eq]
    simp only [hq, hk, ← EReal.coe_mul, coe_sum, coe_exp]
  · rw [if_neg hh, if_neg (fun hc => hh (Fin.ext hc)), EReal.add_bot, exp_bot]
    rfl

/-- The weights over their sums. -/
theorem overSum_apply {e : FVec Ideal S320x320 .f32} {w : Fin 4 → Fin 80 → Fin 80 → ℝ} (hw : ∀ h j j', 0 < w h j j')
    (he : ∀ h h' j j', e (ix2 (stacked h j) (stacked h' j')) = ((if h = h' then w h j j' else 0 : ℝ) : EReal)) (h h' : Fin 4) (j j' : Fin 80) :
    overSum e (ix2 (stacked h j) (stacked h' j')) = ((if h = h' then w h j j' / ∑ l, w h j l else 0 : ℝ) : EReal) := by
  have hsum : ∑ i, e (ix2 (stacked h j) i) = ((∑ l, w h j l : ℝ) : EReal) := by
    have h1 : ∀ i, e (ix2 (stacked h j) i) = (((e (ix2 (stacked h j) i)).toReal : ℝ) : EReal) := fun i => by
      obtain ⟨a, b, rfl⟩ := exists_stacked i
      rw [he]
      rfl
    rw [Finset.sum_congr rfl fun i _ => h1 i, coe_sum, sum_stacked]
    simp [he]
  have hpos : 0 < ∑ l, w h j l := Finset.sum_pos (fun l _ => hw h j l) ⟨0, Finset.mem_univ _⟩
  unfold overSum
  simp only [multiReduction, ValueIdx.divf_apply, broadcast_col, shapeCast_col, sum_last2, hsum, he, coe_div hpos.ne']
  by_cases hh : h = h' <;> simp [hh]

/-- The four heads added up. -/
theorem unstack_apply (x : FVec Ideal S320x64 .f32) (j : Fin 80) (d : Fin 64) :
    unstack x (ix2 j d) = x (ix2 (stacked 0 j) d) + x (ix2 (stacked 1 j) d) + x (ix2 (stacked 2 j) d) + x (ix2 (stacked 3 j) d) := by
  unfold unstack
  simp only [ValueIdx.addf_apply]
  rw [slice_rows 0 x _ j d (stacked 0 j) (by show 80 * 0 + j.val = _; omega), slice_rows 80 x _ j d (stacked 1 j) rfl,
    slice_rows 160 x _ j d (stacked 2 j) rfl, slice_rows 240 x _ j d (stacked 3 j) rfl]

/-- A row of the stack reads the rows of its own head, in the lanes of that head. -/
theorem product_apply {p : FVec Ideal S320x320 .f32} {y : FVec Ideal S320x64 .f32} {w : Fin 4 → Fin 80 → Fin 80 → ℝ}
    (hp : ∀ h h' j j', p (ix2 (stacked h j) (stacked h' j')) = ((if h = h' then w h j j' / ∑ l, w h j l else 0 : ℝ) : EReal))
    (hy : ∀ h j d, y (ix2 (stacked h j) d) = ((V j d * if head d = h then 1 else 0 : ℝ) : EReal)) (h : Fin 4) (j : Fin 80) (d : Fin 64) :
    ∑ i, p (ix2 (stacked h j) i) * y (ix2 i d)
      = (((∑ l, w h j l * V l d) / (∑ l, w h j l) * if head d = h then 1 else 0 : ℝ) : EReal) := by
  have h1 : ∀ i, p (ix2 (stacked h j) i) * y (ix2 i d) = (((p (ix2 (stacked h j) i) * y (ix2 i d)).toReal : ℝ) : EReal) := fun i => by
    obtain ⟨a, b, rfl⟩ := exists_stacked i
    rw [hp, hy, ← EReal.coe_mul]
    rfl
  rw [Finset.sum_congr rfl fun i _ => h1 i, coe_sum, sum_stacked]
  simp only [hp, hy, ← EReal.coe_mul, EReal.toReal_coe, ite_mul, zero_mul, Finset.sum_ite_irrel, Finset.sum_const_zero,
    Finset.sum_ite_eq, Finset.mem_univ, if_true]
  rw [Finset.sum_div, Finset.sum_mul]
  congr 1
  exact Finset.sum_congr rfl fun l _ => by ring

/-- What every row reads, each of its lanes through the lane's head. -/
theorem attended_apply (hm : ∀ h d, m h (ix2 0 d) = ((if head d = h then 1 else 0 : ℝ) : EReal))
    (hs : ∀ i j, s (ix2 i j) = if i.val / 80 = j.val / 80 then 0 else ⊥)
    (hq : ∀ j d, q (ix2 j d) = Q j d) (hk : ∀ j d, k (ix2 j d) = K j d) (hv : ∀ j d, v (ix2 j d) = V j d) (j : Fin 80) (d : Fin 64) :
    attended (m 0) (m 1) (m 2) (m 3) s q k v (ix2 j d)
      = (((∑ l, weight (Q j) (K l) (head d) * V l d) / ∑ l, weight (Q j) (K l) (head d) : ℝ) : EReal) := by
  have he := expScores_apply (s := s)
    (stack_masked_apply hq (m := fun h => quarter (m h)) (fun h d => quarter_apply (hm h) d)) (stack_masked_apply hk hm) hs
  have hp := overSum_apply (w := fun h j l => weight (Q j) (K l) h) (fun h j l => weight_pos _ _ _) he
  have hx := fun h => product_apply hp (stack_masked_apply hv hm) h j d
  unfold attended
  rw [unstack_apply]
  simp only [matmul_rows dot_S320x320_S320x64_S320x64_1_0_0_1_n_n _ rfl, hx, ← EReal.coe_add]
  congr 1
  generalize head d = h
  match h with
  | 0 => simp
  | 1 => simp
  | 2 => simp
  | 3 => simp

/-- The update of the selected tokens before its scale: the attended rows with their residual, projected up. -/
theorem update_apply (W : Weights) {wu : Fin 64 → Fin 768 → ℝ} {c : FVec Ideal S80x64 .f32} {C : Fin 80 → Fin 64 → ℝ}
    (hm : ∀ h d, m h (ix2 0 d) = ((if head d = h then 1 else 0 : ℝ) : EReal))
    (hs : ∀ i j, s (ix2 i j) = if i.val / 80 = j.val / 80 then 0 else ⊥) (hc : ∀ j d, c (ix2 j d) = C j d)
    (hq : ∀ j d, q (ix2 j d) = query W (C j) d) (hk : ∀ j d, k (ix2 j d) = key W (C j) d) (hv : ∀ j d, v (ix2 j d) = value W (C j) d)
    {x13 : Vec Ideal S64x64 .f32} {x14 : Vec Ideal S1x64 .f32} {x4 : Vec Ideal S64x768 .f32} (h13 : ∀ k d, x13 (ix2 k d) = W.wo d k)
    (h14 : ∀ d, x14 (ix2 0 d) = W.bo d) (h4 : ∀ d c, x4 (ix2 d c) = wu d c) (r : Fin 64) (e : Fin 768) :
    k0_pay39 (m 0) (m 1) (m 2) (m 3) s c q k v (masked q (quarter (m 0))) (masked q (quarter (m 1))) (masked q (quarter (m 2))) k0_pay38
        x13 x14 x4 (ix2 r e)
      = ((∑ d, enhance W (fun f => ∑ j, f (C j)) (C ⟨16 + r.val, by omega⟩) d * wu d e : ℝ) : EReal) := by
  rw [pay39_eq]
  simp only [matmul_rows dot_S64x64_S64x768_S64x768_1_0_0_1_n_n _ rfl, matmul_rows dot_S80x64_S64x64_S80x64_1_0_0_1_n_n _ rfl,
    slice_rows 16 _ slices_S80x64_o16_0_S64x64 r _ ⟨16 + r.val, by omega⟩ rfl, ValueIdx.addf_apply, broadcast_row, shapeCast_self,
    attended_apply hm hs hq hk hv, hc, h13, h14, h4, ← EReal.coe_mul, coe_sum, ← EReal.coe_add]
  rfl

end Values

end Cert.KernelIdeal.Block

end
-- ==== Proof.KernelImage.lean ====
/- What a grid point of the kernel stores for one of its eight images. -/
module

public import proofs.«01_k».proof.Proof.KernelAttention

@[expose] public section

noncomputable section

namespace Cert.KernelIdeal.Block

open Cert.KernelIdeal Cert.KernelIdeal.Gen Idealize.ShloMosaic Cert.Model

/-- The rows that the tokens of an image add: 64 updates, the shared row, and seven rows of zeros. -/
def addends (g : Ideal .f32) (v193 : FVec Ideal S1x768 .bf16) (v194 : FVec Ideal S7x768 .bf16) (v361 : FVec Ideal S64x768 .f32) :
    FVec Ideal S72x768 .bf16 :=
  concatenate S72x768 0
    [⟨S64x768, (truncf .bf16 (mulf (broadcast S64x768 g) v361 : FVec Ideal S64x768 .f32) bitsLt_bf16_f32 : FVec Ideal S64x768 .bf16)⟩,
     ⟨S1x768, v193⟩, ⟨S7x768, v194⟩] concatenates_S64x768_S1x768_S7x768_S72x768_d0

/-- The block of image `o` and the rows its tokens add, in the kernel's operations. -/
def stored (o : ℕ) (hs : S8x576x72.Slices ![o, 0, 0] S1x576x72) (g : Ideal .f32) (v193 : FVec Ideal S1x768 .bf16)
    (v194 : FVec Ideal S7x768 .bf16) (v244 : FVec Ideal S8x576x72 .bf16) (v361 : FVec Ideal S64x768 .f32) (v369 : Vec Ideal S1x576x768 .f32) :
    FVec Ideal S1x576x768 .f32 :=
  shapeCast S1x576x768
    (addf (shapeCast S576x768 v369 shapeCasts_S1x576x768_S576x768)
      (matmul (φ₁ := .bf16) (φ₂ := .bf16) dot_S576x72_S72x768_S576x768_1_0_0_1_n_n none
        (shapeCast S576x72 (extractStridedSlice S1x576x72 ![o, 0, 0] v244 hs) shapeCasts_S1x576x72_S576x72) (addends g v193 v194 v361)
        (constant S576x768 .f32 0x00000000#32)))
    shapeCasts_S576x768_S1x576x768

section Values

variable {g : Ideal .f32} {v193 : FVec Ideal S1x768 .bf16} {v361 : FVec Ideal S64x768 .f32} {γ : ℝ} {B : Fin 768 → ℝ} {U : Fin 64 → Fin 768 → ℝ}

/-- The rows that the last product of an image adds up. -/
theorem addends_apply (hg : g = (γ : EReal)) (hb : ∀ e, v193 (ix2 0 e) = B e) (hu : ∀ r e, v361 (ix2 r e) = U r e) (k : Fin 72) (e : Fin 768) :
    addends g v193 k0_pay22 v361 (ix2 k e) = ((if h : k.val < 64 then γ * U ⟨k.val, h⟩ e else if k.val = 64 then B e else 0 : ℝ) : EReal) := by
  unfold addends
  by_cases h : k.val < 64
  · rw [dif_pos h]
    refine (concatenate_apply_piece (t := S72x768) 0 _ _ (ix2 k e) 0 (by simp) S64x768 _ rfl rfl 0 rfl (ix2 (⟨k.val, h⟩ : Fin 64) e) ?_ ?_).trans ?_
    · intro i hi
      match i with
      | ⟨0, _⟩ => exact absurd rfl hi
      | ⟨1, _⟩ => rfl
    · show 0 + k.val = k.val
      omega
    · rw [truncf_apply, ValueIdx.mulf_apply, splat_apply, hg, hu, ← EReal.coe_mul]
  · rw [dif_neg h]
    by_cases h' : k.val = 64
    · rw [if_pos h']
      refine (concatenate_apply_piece (t := S72x768) 0 _ _ (ix2 k e) 1 (by simp) S1x768 _ rfl rfl 64 rfl (ix2 (0 : Fin 1) e) ?_ ?_).trans (hb e)
      · intro i hi
        match i with
        | ⟨0, _⟩ => exact absurd rfl hi
        | ⟨1, _⟩ => rfl
      · exact h'.symm
    · rw [if_neg h']
      refine (concatenate_apply_piece (t := S72x768) 0 _ _ (ix2 k e) 2 (by simp) S7x768 _ rfl rfl 65 rfl (ix2 (⟨k.val - 65, by omega⟩ : Fin 7) e) ?_ ?_).trans ?_
      · intro i hi
        match i with
        | ⟨0, _⟩ => exact absurd rfl hi
        | ⟨1, _⟩ => rfl
      · show 65 + (k.val - 65) = k.val
        omega
      · show Ideal.ofBits .bf16 0x0000#16 = _
        simp [Ideal.ofBits, Ideal.ieee]

/-- The block plus the token's own update, if it is selected, and the shared row. -/
theorem stored_apply {o : ℕ} {hs : S8x576x72.Slices ![o, 0, 0] S1x576x72} {b : Fin 8} (ho : b.val = o) {v244 : FVec Ideal S8x576x72 .bf16}
    {v369 : Vec Ideal S1x576x768 .f32} {R : Fin 576 → ℕ} {X : Fin 576 → Fin 768 → ℝ} (hg : g = (γ : EReal)) (hb : ∀ e, v193 (ix2 0 e) = B e)
    (hu : ∀ r e, v361 (ix2 r e) = U r e)
    (hr : ∀ n k, v244 (ix3 b n k) = ((if (R n = k.val ∧ k.val < 64) ∨ k.val = 64 then 1 else 0 : ℝ) : EReal))
    (hx : ∀ n e, v369 (ix3 0 n e) = X n e) (n : Fin 576) (e : Fin 768) :
    stored o hs g v193 k0_pay22 v244 v361 v369 (ix3 0 n e)
      = ((X n e + ((if h : R n < 64 then γ * U ⟨R n, h⟩ e else 0) + B e) : ℝ) : EReal) := by
  unfold stored
  simp only [shapeCast_add, ValueIdx.addf_apply, matmul_rows dot_S576x72_S72x768_S576x768_1_0_0_1_n_n _ rfl, shapeCast_drop,
    slice_block o _ hs b ho, hr, hx, addends_apply hg hb hu, ← EReal.coe_mul, coe_sum, ← EReal.coe_add]
  congr 2
  refine (Fin.sum_univ_add (a := 64) (b := 8) _).trans ?_
  congr 1
  · have h1 : ∀ r : Fin 64, ((if (R n = (Fin.castAdd 8 r).val ∧ (Fin.castAdd 8 r).val < 64) ∨ (Fin.castAdd 8 r).val = 64 then (1 : ℝ) else 0)
        * if h : (Fin.castAdd 8 r).val < 64 then γ * U ⟨(Fin.castAdd 8 r).val, h⟩ e else if (Fin.castAdd 8 r).val = 64 then B e else 0)
        = if R n = r.val then γ * U r e else 0 := fun r => by
      have hr := r.isLt
      by_cases hc : R n = r.val <;> simp [hc, hr.ne]
    refine (Finset.sum_congr rfl fun r _ => h1 r).trans ?_
    by_cases h : R n < 64
    · rw [dif_pos h, Finset.sum_eq_single ⟨R n, h⟩]
      · rw [if_pos rfl]
      · intro r _ hne
        exact if_neg fun hc => hne (Fin.ext hc.symm)
      · intro hc
        exact absurd (Finset.mem_univ _) hc
    · rw [dif_neg h]
      exact Finset.sum_eq_zero fun r _ => if_neg (by omega)
  · simp [Fin.sum_univ_succ]

end Values

end Cert.KernelIdeal.Block

end
-- ==== Proof.KernelPieces.lean ====
/- What a grid point of the kernel stores, image by image: the eight copies of the kernel's code are one function of the
   image's number. -/
module

public import proofs.«01_k».proof.Proof.KernelImage
public import proofs.«01_k».proof.Proof.Gen.KernelIdeal.Frame

@[expose] public section

noncomputable section

namespace Cert.KernelIdeal.Block

open Cert.KernelIdeal Cert.KernelIdeal.Gen Idealize.ShloMosaic Cert.Model

/-- The update of image `o` from the gathered rows, in the kernel's operations. -/
def update (c : FVec Ideal S80x64 .f32) (y4 : Vec Ideal S64x768 .f32) (y7 y8 y9 : Vec Ideal S64x64 .f32) (y10 y11 y12 : Vec Ideal S1x64 .f32)
    (y13 : Vec Ideal S64x64 .f32) (y14 y15 y16 : Vec Ideal S1x64 .f32) : FVec Ideal S64x768 .f32 :=
  have m0 : FVec Ideal S1x64 .f32 := k0_pay8 k0_pay5 k0_pay6 k0_pay7
  have m1 : FVec Ideal S1x64 .f32 := k0_pay9 (iota .tc S1x64 32 [1] iota_S1x64_d1_w32)
  have m2 : FVec Ideal S1x64 .f32 := k0_pay13 (iota .tc S1x64 32 [1] iota_S1x64_d1_w32) 16#32 (k0_pay10 (iota .tc S1x64 32 [1] iota_S1x64_d1_w32))
        (k0_pay11 (iota .tc S1x64 32 [1] iota_S1x64_d1_w32)) (k0_pay12 (iota .tc S1x64 32 [1] iota_S1x64_d1_w32))
  have m3 : FVec Ideal S1x64 .f32 := k0_pay15 (k0_pay14 (iota .tc S1x64 32 [1] iota_S1x64_d1_w32))
  have s : FVec Ideal S320x320 .f32 := k0_pay20 k0_pay16 k0_pay17 k0_pay18 k0_pay19
  have q : FVec Ideal S80x64 .f32 := k0_pay32 (normalised c) (k0_pay30 y15) y16 y7 y10
  k0_pay39 m0 m1 m2 m3 s c q (k0_pay32 (normalised c) (k0_pay30 y15) y16 y8 y11) (k0_pay32 (normalised c) (k0_pay30 y15) y16 y9 y12)
    (masked q (quarter m0)) (masked q (quarter m1)) (masked q (quarter m2)) k0_pay38 y13 y14 y4

/-- What is stored for image `o`, from the loaded values. -/
def image (o : ℕ) (hs : S8x576x64.Slices ![o, 0, 0] S1x576x64) (hs' : S8x576x72.Slices ![o, 0, 0] S1x576x72)
    (y0 : Vec Ideal S8x576x768 .f32) (y1 : Vec Ideal S8x1x64 .f32) (y2 : Vec Ideal S768x64 .f32) (y3 : Vec Ideal S1x64 .f32)
    (y4 : Vec Ideal S64x768 .f32) (y5 : Vec Ideal S1x768 .f32) (y6 : Vec Ideal S16x64 .f32) (y7 y8 y9 : Vec Ideal S64x64 .f32)
    (y10 y11 y12 : Vec Ideal S1x64 .f32) (y13 : Vec Ideal S64x64 .f32) (y14 y15 y16 : Vec Ideal S1x64 .f32) (y17 : Vec Ideal S1x1 .f32)
    (blk : Vec Ideal S1x576x768 .f32) : FVec Ideal S1x576x768 .f32 :=
  have a : FVec Ideal S8x576x64 .f32 := k0_pay2 y0 y2 y3
  have c : FVec Ideal S80x64 .f32 := gathered o hs a (k0_pay26 (k0_pay24 a y1) (k0_pay25 k0_pay4)) y6
  stored o hs' (k0_pay3 y17) (k0_pay21 (k0_pay3 y17) y5) k0_pay22 (k0_pay27 (k0_pay23 a y1))
    (update c y4 y7 y8 y9 y10 y11 y12 y13 y14 y15 y16) blk

section Values

variable {P : Params} {I : Fin 8 → Fin 576 → Fin 768 → ℝ} {T : Fin 8 → Fin 64 → ℝ}

/-- An image's update in the model's terms. -/
theorem update_eq {c : FVec Ideal S80x64 .f32} {C : Fin 80 → Fin 64 → ℝ} (hc : ∀ j d, c (ix2 j d) = C j d)
    {y4 : Vec Ideal S64x768 .f32} {y7 y8 y9 : Vec Ideal S64x64 .f32} {y10 y11 y12 : Vec Ideal S1x64 .f32}
    {y13 : Vec Ideal S64x64 .f32} {y14 y15 y16 : Vec Ideal S1x64 .f32}
    (h4 : ∀ d e, y4 (ix2 d e) = P.wu e d) (h7 : ∀ k d, y7 (ix2 k d) = P.W.wq d k) (h8 : ∀ k d, y8 (ix2 k d) = P.W.wk d k)
    (h9 : ∀ k d, y9 (ix2 k d) = P.W.wv d k) (h10 : ∀ d, y10 (ix2 0 d) = P.W.bq d) (h11 : ∀ d, y11 (ix2 0 d) = P.W.bk d)
    (h12 : ∀ d, y12 (ix2 0 d) = P.W.bv d) (h13 : ∀ k d, y13 (ix2 k d) = P.W.wo d k) (h14 : ∀ d, y14 (ix2 0 d) = P.W.bo d)
    (h15 : ∀ d, y15 (ix2 0 d) = P.W.lw d) (h16 : ∀ d, y16 (ix2 0 d) = P.W.lb d) (r : Fin 64) (e : Fin 768) :
    update c y4 y7 y8 y9 y10 y11 y12 y13 y14 y15 y16 (ix2 r e)
      = ((∑ d, enhance P.W (fun f => ∑ j, f (C j)) (C ⟨16 + r.val, by omega⟩) d * P.wu e d : ℝ) : EReal) := by
  refine update_apply (m := ![k0_pay8 k0_pay5 k0_pay6 k0_pay7, k0_pay9 (iota .tc S1x64 32 [1] iota_S1x64_d1_w32),
    k0_pay13 (iota .tc S1x64 32 [1] iota_S1x64_d1_w32) 16#32 (k0_pay10 (iota .tc S1x64 32 [1] iota_S1x64_d1_w32))
        (k0_pay11 (iota .tc S1x64 32 [1] iota_S1x64_d1_w32)) (k0_pay12 (iota .tc S1x64 32 [1] iota_S1x64_d1_w32)),
    k0_pay15 (k0_pay14 (iota .tc S1x64 32 [1] iota_S1x64_d1_w32))]) P.W (wu := fun d e => P.wu e d) ?_ sameHead_apply hc
    (linear_apply hc h15 h16 h7 h10) (linear_apply hc h15 h16 h8 h11) (linear_apply hc h15 h16 h9 h12) h13 h14 h4 r e
  intro h d
  match h with
  | 0 => exact mask0_apply d
  | 1 => exact mask1_apply d
  | 2 => exact mask2_apply d
  | 3 => exact mask3_apply d

/-- What is written for one image. -/
theorem image_apply {o : ℕ} {hs : S8x576x64.Slices ![o, 0, 0] S1x576x64} {hs' : S8x576x72.Slices ![o, 0, 0] S1x576x72}
    {b : Fin 8} (ho : b.val = o) {y0 : Vec Ideal S8x576x768 .f32} {y1 : Vec Ideal S8x1x64 .f32} {y2 : Vec Ideal S768x64 .f32}
    {y3 : Vec Ideal S1x64 .f32} {y4 : Vec Ideal S64x768 .f32} {y5 : Vec Ideal S1x768 .f32} {y6 : Vec Ideal S16x64 .f32}
    {y7 y8 y9 : Vec Ideal S64x64 .f32} {y10 y11 y12 : Vec Ideal S1x64 .f32}
    {y13 : Vec Ideal S64x64 .f32} {y14 y15 y16 : Vec Ideal S1x64 .f32} {y17 : Vec Ideal S1x1 .f32} {blk : Vec Ideal S1x576x768 .f32}
    (h0 : ∀ b n c, y0 (ix3 b n c) = I b n c) (h1 : ∀ b d, y1 (ix3 b 0 d) = T b d) (h2 : ∀ c d, y2 (ix2 c d) = P.wd d c)
    (h3 : ∀ d, y3 (ix2 0 d) = P.bd d)
    (h4 : ∀ d e, y4 (ix2 d e) = P.wu e d) (h5 : ∀ e, y5 (ix2 0 e) = P.bu e) (h6 : ∀ i d, y6 (ix2 i d) = P.mq i d)
    (h7 : ∀ k d, y7 (ix2 k d) = P.W.wq d k) (h8 : ∀ k d, y8 (ix2 k d) = P.W.wk d k)
    (h9 : ∀ k d, y9 (ix2 k d) = P.W.wv d k) (h10 : ∀ d, y10 (ix2 0 d) = P.W.bq d) (h11 : ∀ d, y11 (ix2 0 d) = P.W.bk d)
    (h12 : ∀ d, y12 (ix2 0 d) = P.W.bv d) (h13 : ∀ k d, y13 (ix2 k d) = P.W.wo d k) (h14 : ∀ d, y14 (ix2 0 d) = P.W.bo d)
    (h15 : ∀ d, y15 (ix2 0 d) = P.W.lw d) (h16 : ∀ d, y16 (ix2 0 d) = P.W.lb d) (h17 : y17 (ix2 0 0) = P.γ)
    (hblk : ∀ n e, blk (ix3 0 n e) = I b n e) (hu : Untied (P.scores (I b) (T b))) (n : Fin 576) (e : Fin 768) :
    image o hs hs' y0 y1 y2 y3 y4 y5 y6 y7 y8 y9 y10 y11 y12 y13 y14 y15 y16 y17 blk (ix3 0 n e) = P.out (I b) (T b) n e := by
  have ha : ∀ b n d, k0_pay2 y0 y2 y3 (ix3 b n d) = P.acts (I b) n d := acts_apply h0 h2 h3
  have hr : ∀ b n, k0_pay23 (k0_pay2 y0 y2 y3) y1 (ix3 b n 0) = ((rank (P.scores (I b) (T b)) n : ℝ) : EReal) :=
    fun b n => rank_apply ha h1 b n 0
  have hh : ∀ n r, k0_pay26 (k0_pay24 (k0_pay2 y0 y2 y3) y1) (k0_pay25 k0_pay4) (ix3 b n r)
      = ((if n = ranked hu r then 1 else 0 : ℝ) : EReal) := fun n r => by
    rw [onehot_apply hr b n r]
    simp only [rank_eq_iff hu]
  have hg : k0_pay3 y17 = (P.γ : EReal) := by
    refine (congrArg y17 (funext fun i => ?_)).trans h17
    match i with
    | ⟨0, _⟩ => rfl
    | ⟨1, _⟩ => rfl
  have hb : ∀ e, k0_pay21 (k0_pay3 y17) y5 (ix2 0 e) = ((P.γ * P.bu e : ℝ) : EReal) := fun e => by
    unfold k0_pay21
    simp only [truncf_apply, ValueIdx.mulf_apply, splat_apply, shapeCast_self, hg, h5, ← EReal.coe_mul]
  have hc := gathered_apply (hs := hs) ho (ha b) hh h6
  refine (stored_apply (hs := hs') ho hg hb (update_eq (P := P) hc h4 h7 h8 h9 h10 h11 h12 h13 h14 h15 h16)
    (fun n k => scatterRow_apply hr b n k) hblk n e).trans ?_
  have hT : (fun f : (Fin 64 → ℝ) → ℝ => ∑ j, f (rows P.mq (P.acts (I b)) (ranked hu) j)) = context P.mq (P.acts (I b)) (P.scores (I b) (T b)) := by
    funext f
    rw [sum_rows, context_eq hu (ranked_injective hu) (fun r => by rw [rank_ranked]; exact r.isLt)]
  unfold Params.out
  rw [hT]
  congr 2
  by_cases h : rank (P.scores (I b) (T b)) n < 64
  · rw [dif_pos h, if_pos h]
    have hn : rows P.mq (P.acts (I b)) (ranked hu) ⟨16 + rank (P.scores (I b) (T b)) n, by omega⟩ = P.acts (I b) n := by
      unfold rows
      rw [dif_neg (by simp)]
      congr 1
      refine Eq.trans ?_ ((rank_eq_iff hu ⟨_, h⟩ n).1 rfl).symm
      apply congrArg
      apply Fin.ext
      simp
    rw [hn]
    ring
  · rw [dif_neg h, if_neg h]
    ring

end Values

/-- The stored pieces of a grid point are the eight images. -/
theorem out_eq (x0 : Vec Ideal S8x576x768 .f32) (x1 : Vec Ideal S8x1x64 .f32) (x2 : Vec Ideal S768x64 .f32) (x3 : Vec Ideal S1x64 .f32)
    (x4 : Vec Ideal S64x768 .f32) (x5 : Vec Ideal S1x768 .f32) (x6 : Vec Ideal S16x64 .f32) (x7 x8 x9 : Vec Ideal S64x64 .f32)
    (x10 x11 x12 : Vec Ideal S1x64 .f32) (x13 : Vec Ideal S64x64 .f32) (x14 x15 x16 : Vec Ideal S1x64 .f32) (x17 : Vec Ideal S1x1 .f32) :
    out0_18 x0 x1 x2 x3 x4 x5 x6 x7 x8 x9 x10 x11 x12 x13 x14 x15 x16 x17 =
      have f := fun (o : ℕ) (hs : S8x576x64.Slices ![o, 0, 0] S1x576x64) (hs' : S8x576x72.Slices ![o, 0, 0] S1x576x72) =>
        image o hs hs' (View.ld x0 r0_0) (View.ld x1 r0_5) (View.ld x2 r0_1) (View.ld x3 r0_2) (View.ld x4 r0_8) (View.ld x5 r0_4)
          (View.ld x6 r0_6) (View.ld x7 r0_7) (View.ld x8 r0_7) (View.ld x9 r0_7) (View.ld x10 r0_2) (View.ld x11 r0_2) (View.ld x12 r0_2)
          (View.ld x13 r0_7) (View.ld x14 r0_2) (View.ld x15 r0_2) (View.ld x16 r0_2) (View.ld x17 r0_3)
      View.canon [⟨r0_16, f 7 slices_S8x576x64_o7_0_0_S1x576x64 slices_S8x576x72_o7_0_0_S1x576x72 (View.ld x0 r0_16)⟩,
        ⟨r0_15, f 6 slices_S8x576x64_o6_0_0_S1x576x64 slices_S8x576x72_o6_0_0_S1x576x72 (View.ld x0 r0_15)⟩,
        ⟨r0_14, f 5 slices_S8x576x64_o5_0_0_S1x576x64 slices_S8x576x72_o5_0_0_S1x576x72 (View.ld x0 r0_14)⟩,
        ⟨r0_13, f 4 slices_S8x576x64_o4_0_0_S1x576x64 slices_S8x576x72_o4_0_0_S1x576x72 (View.ld x0 r0_13)⟩,
        ⟨r0_12, f 3 slices_S8x576x64_o3_0_0_S1x576x64 slices_S8x576x72_o3_0_0_S1x576x72 (View.ld x0 r0_12)⟩,
        ⟨r0_11, f 2 slices_S8x576x64_o2_0_0_S1x576x64 slices_S8x576x72_o2_0_0_S1x576x72 (View.ld x0 r0_11)⟩,
        ⟨r0_10, f 1 slices_S8x576x64_o1_0_0_S1x576x64 slices_S8x576x72_o1_0_0_S1x576x72 (View.ld x0 r0_10)⟩,
        ⟨r0_9, f 0 slices_S8x576x64_o0_0_0_S1x576x64 slices_S8x576x72_o0_0_0_S1x576x72 (View.ld x0 r0_9)⟩] := rfl

/-- An index of a piece in the block of eight images. -/
theorem piece_emb (o : ℕ) (inb : ∀ a, (![o, 0, 0] : Fin 3 → ℕ) a + S1x576x768.size a ≤ S8x576x768.size a) (b : Fin 8)
    (ho : b.val = o) (n : Fin 576) (e : Fin 768) :
    (Rect.unit (s := S8x576x768) ![o, 0, 0] S1x576x768.size inb).emb (ix3 0 n e) = ix3 b n e := by
  funext a
  apply Fin.ext
  match a with
  | ⟨0, _⟩ => show o + 1 * 0 = b.val; omega
  | ⟨1, _⟩ => show 0 + 1 * n.val = n.val; omega
  | ⟨2, _⟩ => show 0 + 1 * e.val = e.val; omega

/-- What a grid point stores: the result of its eight images. -/
theorem out_apply {P : Params} {I : Fin 8 → Fin 576 → Fin 768 → ℝ} {T : Fin 8 → Fin 64 → ℝ}
    {x0 : Vec Ideal S8x576x768 .f32} {x1 : Vec Ideal S8x1x64 .f32} {x2 : Vec Ideal S768x64 .f32}
    {x3 : Vec Ideal S1x64 .f32} {x4 : Vec Ideal S64x768 .f32} {x5 : Vec Ideal S1x768 .f32} {x6 : Vec Ideal S16x64 .f32}
    {x7 x8 x9 : Vec Ideal S64x64 .f32} {x10 x11 x12 : Vec Ideal S1x64 .f32}
    {x13 : Vec Ideal S64x64 .f32} {x14 x15 x16 : Vec Ideal S1x64 .f32} {x17 : Vec Ideal S1x1 .f32}
    (h0 : ∀ b n c, x0 (ix3 b n c) = I b n c) (h1 : ∀ b d, x1 (ix3 b 0 d) = T b d) (h2 : ∀ c d, x2 (ix2 c d) = P.wd d c)
    (h3 : ∀ d, x3 (ix2 0 d) = P.bd d)
    (h4 : ∀ d e, x4 (ix2 d e) = P.wu e d) (h5 : ∀ e, x5 (ix2 0 e) = P.bu e) (h6 : ∀ i d, x6 (ix2 i d) = P.mq i d)
    (h7 : ∀ k d, x7 (ix2 k d) = P.W.wq d k) (h8 : ∀ k d, x8 (ix2 k d) = P.W.wk d k)
    (h9 : ∀ k d, x9 (ix2 k d) = P.W.wv d k) (h10 : ∀ d, x10 (ix2 0 d) = P.W.bq d) (h11 : ∀ d, x11 (ix2 0 d) = P.W.bk d)
    (h12 : ∀ d, x12 (ix2 0 d) = P.W.bv d) (h13 : ∀ k d, x13 (ix2 k d) = P.W.wo d k) (h14 : ∀ d, x14 (ix2 0 d) = P.W.bo d)
    (h15 : ∀ d, x15 (ix2 0 d) = P.W.lw d) (h16 : ∀ d, x16 (ix2 0 d) = P.W.lb d) (h17 : x17 (ix2 0 0) = P.γ)
    (hu : ∀ b, Untied (P.scores (I b) (T b))) (b : Fin 8) (n : Fin 576) (e : Fin 768) :
    out0_18 x0 x1 x2 x3 x4 x5 x6 x7 x8 x9 x10 x11 x12 x13 x14 x15 x16 x17 (ix3 b n e) = P.out (I b) (T b) n e := by
  have zero2 : (![0, 0] : Fin 2 → ℕ) = fun _ => 0 := by decide
  have zero3 : (![0, 0, 0] : Fin 3 → ℕ) = fun _ => 0 := by decide
  have piece : ∀ (o : ℕ) (hs : S8x576x64.Slices ![o, 0, 0] S1x576x64) (hs' : S8x576x72.Slices ![o, 0, 0] S1x576x72)
      (inb : ∀ a, (![o, 0, 0] : Fin 3 → ℕ) a + S1x576x768.size a ≤ S8x576x768.size a) (b : Fin 8) (ho : b.val = o)
      (x : S1x576x768.Idx),
      image o hs hs' (View.ld x0 r0_0) (View.ld x1 r0_5) (View.ld x2 r0_1) (View.ld x3 r0_2) (View.ld x4 r0_8) (View.ld x5 r0_4)
          (View.ld x6 r0_6) (View.ld x7 r0_7) (View.ld x8 r0_7) (View.ld x9 r0_7) (View.ld x10 r0_2) (View.ld x11 r0_2) (View.ld x12 r0_2)
          (View.ld x13 r0_7) (View.ld x14 r0_2) (View.ld x15 r0_2) (View.ld x16 r0_2) (View.ld x17 r0_3)
          (View.ld x0 (Rect.unit ![o, 0, 0] S1x576x768.size inb)) x
        = (fun y : S8x576x768.Idx => ((P.out (I (y 0)) (T (y 0)) (y 1) (y 2) : ℝ) : EReal))
          ((Rect.unit (s := S8x576x768) ![o, 0, 0] S1x576x768.size inb).emb x) := by
    intro o hs hs' inb b ho x
    have hx : x = ix3 0 (x 1) (x 2) := by
      funext a
      match a with
      | ⟨0, _⟩ => exact Subsingleton.elim (α := Fin 1) _ _
      | ⟨1, _⟩ => rfl
      | ⟨2, _⟩ => rfl
    rw [hx]
    refine Eq.trans ?_ (congrArg (fun y : S8x576x768.Idx => ((P.out (I (y 0)) (T (y 0)) (y 1) (y 2) : ℝ) : EReal))
      (piece_emb o inb b ho (x 1) (x 2))).symm
    have w0 : View.ld x0 r0_0 = x0 := View.ld_unit_zero zero3 _ x0
    have w1 : View.ld x1 r0_5 = x1 := View.ld_unit_zero zero3 _ x1
    have w2 : View.ld x2 r0_1 = x2 := View.ld_unit_zero zero2 _ x2
    have w4 : View.ld x4 r0_8 = x4 := View.ld_unit_zero zero2 _ x4
    have w5 : View.ld x5 r0_4 = x5 := View.ld_unit_zero zero2 _ x5
    have w6 : View.ld x6 r0_6 = x6 := View.ld_unit_zero zero2 _ x6
    have w17 : View.ld x17 r0_3 = x17 := View.ld_unit_zero zero2 _ x17
    have wr : ∀ x : Vec Ideal S1x64 .f32, View.ld x r0_2 = x := fun x => View.ld_unit_zero zero2 _ x
    have ws : ∀ x : Vec Ideal S64x64 .f32, View.ld x r0_7 = x := fun x => View.ld_unit_zero zero2 _ x
    rw [w0, w1, w2, w4, w5, w6, w17, wr x3, wr x10, wr x11, wr x12, wr x14, wr x15, wr x16, ws x7, ws x8, ws x9, ws x13]
    refine image_apply (P := P) (I := I) (T := T) ho h0 h1 h2 h3 h4 h5 h6 h7 h8 h9 h10 h11 h12 h13 h14 h15 h16 h17 (fun n e => ?_) (hu b) _ _
    exact (congrArg x0 (piece_emb o inb b ho n e)).trans (h0 b n e)
  rw [out_eq]
  refine View.canon_apply_of_pieces (e := .f32) (Val := Elt Ideal) (fun y : S8x576x768.Idx => ((P.out (I (y 0)) (T (y 0)) (y 1) (y 2) : ℝ) : Elt Ideal .f32)) _ ?_ _
    (cover0_18 _ _ _ _ _ _ _ _ _)
  intro p hp x
  simp only [List.mem_cons, List.not_mem_nil, or_false] at hp
  rcases hp with rfl | rfl | rfl | rfl | rfl | rfl | rfl | rfl
  · exact piece 7 _ _ _ 7 rfl x
  · exact piece 6 _ _ _ 6 rfl x
  · exact piece 5 _ _ _ 5 rfl x
  · exact piece 4 _ _ _ 4 rfl x
  · exact piece 3 _ _ _ 3 rfl x
  · exact piece 2 _ _ _ 2 rfl x
  · exact piece 1 _ _ _ 1 rfl x
  · exact piece 0 _ _ _ 0 rfl x

end Cert.KernelIdeal.Block

end
-- ==== Proof.KernelArray.lean ====
/- What the kernel's result array holds: the blocks of the grid's eight points, each from the arrays that the host
   operations prepare. -/
module

public import proofs.«01_k».proof.Proof.Arrays
public import proofs.«01_k».proof.Proof.KernelPieces
public import proofs.«01_k».proof.Proof.Gen.KernelIdeal.Value
public import Idealize.ShloMosaic.Lib.StableHlo.ReadAt

@[expose] public section

noncomputable section

namespace Cert.KernelIdeal.Block

open Cert.KernelIdeal Cert.KernelIdeal.Gen Idealize.ShloMosaic Cert.Model

variable (m : (ℓ : Loc nD τ sig) → Buf (Elt Ideal) ℓ) (c : Dev nD)

/-- The launch memory of core `c` holds the real data. -/
abbrev Launched (D : Data) : Prop :=
  D.Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

variable {D : Data} {m} {c}

/-- The text rows prepared for the kernel. -/
theorem V_text (h : Launched m c D) (i : Fin 64) (d : Fin 64) : (V m c main_v0 (ix3 i 0 d) : EReal) = ((D.text i d : ℝ) : EReal) := by
  unfold V
  after_reads_at
  exact h.h1 i 0 (lead d)

/-- The down projection prepared for the kernel. -/
theorem V_wd (h : Launched m c D) (k : Fin 768) (d : Fin 64) : (V m c main_v1 (ix2 k d) : EReal) = ((D.x2 d k : ℝ) : EReal) := by
  unfold V
  after_reads_at
  exact h.h2 d k

/-- The up projection prepared for the kernel. -/
theorem V_wu (h : Launched m c D) (d : Fin 64) (e : Fin 768) : (V m c main_v2 (ix2 d e) : EReal) = ((D.x4 e d : ℝ) : EReal) := by
  unfold V
  after_reads_at
  exact h.h4 e d

/-- The query weights prepared for the kernel. -/
theorem V_wq (h : Launched m c D) (k d : Fin 64) : (V m c main_v4 (ix2 k d) : EReal) = ((D.x7 (first d) k : ℝ) : EReal) := by
  unfold V
  after_reads_at
  exact h.h7 (first d) k

/-- The key weights prepared for the kernel. -/
theorem V_wk (h : Launched m c D) (k d : Fin 64) : (V m c main_v6 (ix2 k d) : EReal) = ((D.x7 (second d) k : ℝ) : EReal) := by
  unfold V
  after_reads_at
  exact h.h7 (second d) k

/-- The value weights prepared for the kernel. -/
theorem V_wv (h : Launched m c D) (k d : Fin 64) : (V m c main_v8 (ix2 k d) : EReal) = ((D.x7 (third d) k : ℝ) : EReal) := by
  unfold V
  after_reads_at
  exact h.h7 (third d) k

/-- The query bias prepared for the kernel. -/
theorem V_bq (h : Launched m c D) (d : Fin 64) : (V m c main_v10 (ix2 0 d) : EReal) = ((D.x8 (first d) : ℝ) : EReal) := by
  unfold V
  after_reads_at
  exact h.h8 (first d)

/-- The key bias prepared for the kernel. -/
theorem V_bk (h : Launched m c D) (d : Fin 64) : (V m c main_v12 (ix2 0 d) : EReal) = ((D.x8 (second d) : ℝ) : EReal) := by
  unfold V
  after_reads_at
  exact h.h8 (second d)

/-- The value bias prepared for the kernel. -/
theorem V_bv (h : Launched m c D) (d : Fin 64) : (V m c main_v14 (ix2 0 d) : EReal) = ((D.x8 (third d) : ℝ) : EReal) := by
  unfold V
  after_reads_at
  exact h.h8 (third d)

/-- The output weights prepared for the kernel. -/
theorem V_wo (h : Launched m c D) (k d : Fin 64) : (V m c main_v15 (ix2 k d) : EReal) = ((D.x9 d k : ℝ) : EReal) := by
  unfold V
  after_reads_at
  exact h.h9 d k

/-- The output bias prepared for the kernel. -/
theorem V_bo (h : Launched m c D) (d : Fin 64) : (V m c main_v16 (ix2 0 d) : EReal) = ((D.x10 d : ℝ) : EReal) := by
  unfold V
  after_reads_at
  exact h.h10 d

/-- The down bias prepared for the kernel. -/
theorem V_bd (h : Launched m c D) (d : Fin 64) : (V m c main_v17 (ix2 0 d) : EReal) = ((D.x3 d : ℝ) : EReal) := by
  unfold V
  after_reads_at
  exact h.h3 d

/-- The up bias prepared for the kernel. -/
theorem V_bu (h : Launched m c D) (e : Fin 768) : (V m c main_v18 (ix2 0 e) : EReal) = ((D.x5 e : ℝ) : EReal) := by
  unfold V
  after_reads_at
  exact h.h5 e

/-- The queries prepared for the kernel. -/
theorem V_mq (h : Launched m c D) (i : Fin 16) (d : Fin 64) : (V m c main_v19 (ix2 i d) : EReal) = ((D.x6 i d : ℝ) : EReal) := by
  unfold V
  after_reads_at
  exact h.h6 i d

/-- The normalisation's scale prepared for the kernel. -/
theorem V_lw (h : Launched m c D) (d : Fin 64) : (V m c main_v20 (ix2 0 d) : EReal) = ((D.x11 d : ℝ) : EReal) := by
  unfold V
  after_reads_at
  exact h.h11 d

/-- The normalisation's shift prepared for the kernel. -/
theorem V_lb (h : Launched m c D) (d : Fin 64) : (V m c main_v21 (ix2 0 d) : EReal) = ((D.x12 d : ℝ) : EReal) := by
  unfold V
  after_reads_at
  exact h.h12 d

/-- The last scale prepared for the kernel. -/
theorem V_scale (h : Launched m c D) : (V m c main_v22 (ix2 0 0) : EReal) = ((D.x13 : ℝ) : EReal) := by
  unfold V
  after_reads_at
  exact h.h13

/-- The image that is number `b` of grid point `t`. -/
def at_ (t : Fin cfg0.N) (b : Fin 8) : Fin 64 := ⟨8 * t.val + b.val, by have := t.isLt; have : cfg0.N = 8 := rfl; omega⟩

/-- The block index of the images, the text rows and the result is the grid point. -/
theorem index_point : ∀ t : Fin cfg0.N, (∀ a, win0_0.index t a = (![t.val, 0, 0] : Fin 3 → ℕ) a)
    ∧ (∀ a, win0_1.index t a = (![t.val, 0, 0] : Fin 3 → ℕ) a) ∧ ∀ a, win0_18.index t a = (![t.val, 0, 0] : Fin 3 → ℕ) a :=
  (by decide +kernel : ∀ t : Fin grid0.N, (∀ a, win0_0.index t a = (![t.val, 0, 0] : Fin 3 → ℕ) a)
    ∧ (∀ a, win0_1.index t a = (![t.val, 0, 0] : Fin 3 → ℕ) a) ∧ ∀ a, win0_18.index t a = (![t.val, 0, 0] : Fin 3 → ℕ) a)

/-- An element of a block of eight rows in its array. -/
theorem emb_point {w : Fin cfg0.W} (t : Fin cfg0.N)
    (y : ((cfg0.win w).xblock (cfg0.grid.coords t)).Idx) (hk : (cfg0.win w).kind = .blocked) (j : (cfg0.win w).shape.Idx)
    (h : ∀ a, (cfg0.win w).index t a * (cfg0.win w).size a + (y a).val = (j a).val) : ((cfg0.win w).rect t).emb y = j := by
  funext a
  exact Fin.ext (((cfg0.win w).rect_emb_val t y a hk).trans (h a))

/-- The block of images at a grid point. -/
theorem block_images (h : Launched m c D) (t : Fin cfg0.N) (b : Fin 8) (n : Fin 576) (e : Fin 768) :
    (iblk m c 0 t (ix3 b n e) : EReal) = ((D.x0 (at_ t b) n e : ℝ) : EReal) := by
  have hj : ((cfg0.win 0).rect t).emb (ix3 b n e) = ix3 (at_ t b) n e := by
    refine emb_point t _ rfl _ fun a => ?_
    refine (congrArg (· * _ + _) ((index_point t).1 a)).trans ?_
    match a with
    | ⟨0, _⟩ => show t.val * 8 + b.val = 8 * t.val + b.val; omega
    | ⟨1, _⟩ => show 0 * 576 + n.val = n.val; omega
    | ⟨2, _⟩ => show 0 * 768 + e.val = e.val; omega
  show (V m c main_arg0 (((cfg0.win 0).rect t).emb (ix3 b n e)) : EReal) = _
  rw [hj, V_main_arg0]
  exact h.h0 _ _ _

/-- The block of text rows at a grid point. -/
theorem block_text (h : Launched m c D) (t : Fin cfg0.N) (b : Fin 8) (d : Fin 64) :
    (iblk m c 1 t (ix3 b 0 d) : EReal) = ((D.text (at_ t b) d : ℝ) : EReal) := by
  have hj : ((cfg0.win 1).rect t).emb (ix3 b 0 d) = ix3 (at_ t b) 0 d := by
    refine emb_point t _ rfl _ fun a => ?_
    refine (congrArg (· * _ + _) ((index_point t).2.1 a)).trans ?_
    match a with
    | ⟨0, _⟩ => show t.val * 8 + b.val = 8 * t.val + b.val; omega
    | ⟨1, _⟩ => rfl
    | ⟨2, _⟩ => show 0 * 64 + d.val = d.val; omega
  show (V m c main_v0 (((cfg0.win 1).rect t).emb (ix3 b 0 d)) : EReal) = _
  rw [hj]
  exact V_text h _ _

/-- A block that is the whole array is the array. -/
theorem block_whole (t : Fin cfg0.N) {w : Fin cfg0.W} (h0 : ∀ a, (cfg0.win w).index t a = 0) (y : ((cfg0.win w).xblock (cfg0.grid.coords t)).Idx) (j : (cfg0.win w).shape.Idx)
    (h : ∀ a, (y a).val = (j a).val) : ((cfg0.win w).rect t).emb y = j := by
  funext a
  exact Fin.ext (((cfg0.win w).rect_emb_val_of_index_zero t a (h0 a) y).trans (h a))

/-- The block index of every other window is zero. -/
theorem index_whole : ∀ t : Fin cfg0.N, ∀ w : Fin 19, w ≠ 0 → w ≠ 1 → w ≠ 18 → ∀ a, (cfg0.win w).index t a = 0 :=
  (by decide +kernel : ∀ t : Fin grid0.N, ∀ w : Fin 19, w ≠ 0 → w ≠ 1 → w ≠ 18 → ∀ a, (win0 w).index t a = 0)

/-- The block of the down projection. -/
theorem block_wd (h : Launched m c D) (t : Fin cfg0.N) (k : Fin 768) (d : Fin 64) : (iblk m c 2 t (ix2 k d) : EReal) = ((D.x2 d k : ℝ) : EReal) :=
  (congrArg (V m c main_v1) (block_whole (w := 2) t (index_whole t 2 (by decide) (by decide) (by decide)) (ix2 k d) (ix2 k d) fun _ => rfl)).trans (V_wd h k d)

/-- The block of the down bias. -/
theorem block_bd (h : Launched m c D) (t : Fin cfg0.N) (d : Fin 64) : (iblk m c 3 t (ix2 0 d) : EReal) = ((D.x3 d : ℝ) : EReal) :=
  (congrArg (V m c main_v17) (block_whole (w := 3) t (index_whole t 3 (by decide) (by decide) (by decide)) (ix2 0 d) (ix2 0 d) fun _ => rfl)).trans (V_bd h d)

/-- The block of the up projection. -/
theorem block_wu (h : Launched m c D) (t : Fin cfg0.N) (d : Fin 64) (e : Fin 768) : (iblk m c 4 t (ix2 d e) : EReal) = ((D.x4 e d : ℝ) : EReal) :=
  (congrArg (V m c main_v2) (block_whole (w := 4) t (index_whole t 4 (by decide) (by decide) (by decide)) (ix2 d e) (ix2 d e) fun _ => rfl)).trans (V_wu h d e)

/-- The block of the up bias. -/
theorem block_bu (h : Launched m c D) (t : Fin cfg0.N) (e : Fin 768) : (iblk m c 5 t (ix2 0 e) : EReal) = ((D.x5 e : ℝ) : EReal) :=
  (congrArg (V m c main_v18) (block_whole (w := 5) t (index_whole t 5 (by decide) (by decide) (by decide)) (ix2 0 e) (ix2 0 e) fun _ => rfl)).trans (V_bu h e)

/-- The block of the queries. -/
theorem block_mq (h : Launched m c D) (t : Fin cfg0.N) (i : Fin 16) (d : Fin 64) : (iblk m c 6 t (ix2 i d) : EReal) = ((D.x6 i d : ℝ) : EReal) :=
  (congrArg (V m c main_v19) (block_whole (w := 6) t (index_whole t 6 (by decide) (by decide) (by decide)) (ix2 i d) (ix2 i d) fun _ => rfl)).trans (V_mq h i d)

/-- The block of the query weights. -/
theorem block_wq (h : Launched m c D) (t : Fin cfg0.N) (k d : Fin 64) : (iblk m c 7 t (ix2 k d) : EReal) = ((D.x7 (first d) k : ℝ) : EReal) :=
  (congrArg (V m c main_v4) (block_whole (w := 7) t (index_whole t 7 (by decide) (by decide) (by decide)) (ix2 k d) (ix2 k d) fun _ => rfl)).trans (V_wq h k d)

/-- The block of the key weights. -/
theorem block_wk (h : Launched m c D) (t : Fin cfg0.N) (k d : Fin 64) : (iblk m c 8 t (ix2 k d) : EReal) = ((D.x7 (second d) k : ℝ) : EReal) :=
  (congrArg (V m c main_v6) (block_whole (w := 8) t (index_whole t 8 (by decide) (by decide) (by decide)) (ix2 k d) (ix2 k d) fun _ => rfl)).trans (V_wk h k d)

/-- The block of the value weights. -/
theorem block_wv (h : Launched m c D) (t : Fin cfg0.N) (k d : Fin 64) : (iblk m c 9 t (ix2 k d) : EReal) = ((D.x7 (third d) k : ℝ) : EReal) :=
  (congrArg (V m c main_v8) (block_whole (w := 9) t (index_whole t 9 (by decide) (by decide) (by decide)) (ix2 k d) (ix2 k d) fun _ => rfl)).trans (V_wv h k d)

/-- The block of the query bias. -/
theorem block_bq (h : Launched m c D) (t : Fin cfg0.N) (d : Fin 64) : (iblk m c 10 t (ix2 0 d) : EReal) = ((D.x8 (first d) : ℝ) : EReal) :=
  (congrArg (V m c main_v10) (block_whole (w := 10) t (index_whole t 10 (by decide) (by decide) (by decide)) (ix2 0 d) (ix2 0 d) fun _ => rfl)).trans (V_bq h d)

/-- The block of the key bias. -/
theorem block_bk (h : Launched m c D) (t : Fin cfg0.N) (d : Fin 64) : (iblk m c 11 t (ix2 0 d) : EReal) = ((D.x8 (second d) : ℝ) : EReal) :=
  (congrArg (V m c main_v12) (block_whole (w := 11) t (index_whole t 11 (by decide) (by decide) (by decide)) (ix2 0 d) (ix2 0 d) fun _ => rfl)).trans (V_bk h d)

/-- The block of the value bias. -/
theorem block_bv (h : Launched m c D) (t : Fin cfg0.N) (d : Fin 64) : (iblk m c 12 t (ix2 0 d) : EReal) = ((D.x8 (third d) : ℝ) : EReal) :=
  (congrArg (V m c main_v14) (block_whole (w := 12) t (index_whole t 12 (by decide) (by decide) (by decide)) (ix2 0 d) (ix2 0 d) fun _ => rfl)).trans (V_bv h d)

/-- The block of the output weights. -/
theorem block_wo (h : Launched m c D) (t : Fin cfg0.N) (k d : Fin 64) : (iblk m c 13 t (ix2 k d) : EReal) = ((D.x9 d k : ℝ) : EReal) :=
  (congrArg (V m c main_v15) (block_whole (w := 13) t (index_whole t 13 (by decide) (by decide) (by decide)) (ix2 k d) (ix2 k d) fun _ => rfl)).trans (V_wo h k d)

/-- The block of the output bias. -/
theorem block_bo (h : Launched m c D) (t : Fin cfg0.N) (d : Fin 64) : (iblk m c 14 t (ix2 0 d) : EReal) = ((D.x10 d : ℝ) : EReal) :=
  (congrArg (V m c main_v16) (block_whole (w := 14) t (index_whole t 14 (by decide) (by decide) (by decide)) (ix2 0 d) (ix2 0 d) fun _ => rfl)).trans (V_bo h d)

/-- The block of the normalisation's scale. -/
theorem block_lw (h : Launched m c D) (t : Fin cfg0.N) (d : Fin 64) : (iblk m c 15 t (ix2 0 d) : EReal) = ((D.x11 d : ℝ) : EReal) :=
  (congrArg (V m c main_v20) (block_whole (w := 15) t (index_whole t 15 (by decide) (by decide) (by decide)) (ix2 0 d) (ix2 0 d) fun _ => rfl)).trans (V_lw h d)

/-- The block of the normalisation's shift. -/
theorem block_lb (h : Launched m c D) (t : Fin cfg0.N) (d : Fin 64) : (iblk m c 16 t (ix2 0 d) : EReal) = ((D.x12 d : ℝ) : EReal) :=
  (congrArg (V m c main_v21) (block_whole (w := 16) t (index_whole t 16 (by decide) (by decide) (by decide)) (ix2 0 d) (ix2 0 d) fun _ => rfl)).trans (V_lb h d)

/-- The block of the last scale. -/
theorem block_scale (h : Launched m c D) (t : Fin cfg0.N) : (iblk m c 17 t (ix2 0 0) : EReal) = ((D.x13 : ℝ) : EReal) :=
  (congrArg (V m c main_v22) (block_whole (w := 17) t (index_whole t 17 (by decide) (by decide) (by decide)) (ix2 0 0) (ix2 0 0) fun _ => rfl)).trans (V_scale h)

/-- What the kernel writes back at a grid point: the results of its eight images. -/
theorem flushed_apply (h : Launched m c D) (hu : D.Untied) (t : Fin cfg0.N) (b : Fin 8) (n : Fin 576) (e : Fin 768) :
    ((dats m 0 c).flushed 18 t (ix3 b n e) : EReal) = ((D.out (at_ t b) n e : ℝ) : EReal) := by
  rw [Value.flushed18]
  exact out_apply (P := D.params) (I := fun b => D.x0 (at_ t b)) (T := fun b => D.text (at_ t b))
    (block_images h t) (block_text h t) (block_wd h t) (block_bd h t) (block_wu h t) (block_bu h t) (block_mq h t) (block_wq h t) (block_wk h t) (block_wv h t) (block_bq h t) (block_bk h t) (block_bv h t) (block_wo h t) (block_bo h t) (block_lw h t) (block_lb h t) (block_scale h t) (fun b => hu (at_ t b)) b n e

/-- The kernel's result array holds the problem's result. -/
theorem array_apply (h : Launched m c D) (hu : D.Untied) (i : Fin 64) (n : Fin 576) (e : Fin 768) :
    ((dats m 0 c).arrAt 18 cfg0.N (ix3 i n e) : EReal) = ((D.out i n e : ℝ) : EReal) := by
  let t : Fin cfg0.N := ⟨i.val / 8, by have := i.isLt; have : cfg0.N = 8 := rfl; omega⟩
  let b : Fin 8 := ⟨i.val % 8, by omega⟩
  have hi : at_ t b = i := Fin.ext (by show 8 * (i.val / 8) + i.val % 8 = i.val; omega)
  have hj : ((cfg0.win 18).rect t).emb (ix3 b n e) = ix3 i n e := by
    refine emb_point t _ rfl _ fun a => ?_
    refine (congrArg (· * _ + _) ((index_point t).2.2 a)).trans ?_
    match a with
    | ⟨0, _⟩ => show i.val / 8 * 8 + i.val % 8 = i.val; omega
    | ⟨1, _⟩ => show 0 * 576 + n.val = n.val; omega
    | ⟨2, _⟩ => show 0 * 768 + e.val = e.val; omega
  have hf := congrFun (Value.blocks18 m c t ((by decide +kernel : ∀ t : Fin grid0.N, win0_18.flush t = true) t)) (ix3 b n e)
  have := hf.trans (flushed_apply h hu t b n e)
  rw [hi] at this
  refine Eq.trans ?_ this
  exact congrArg ((dats m 0 c).arrAt 18 cfg0.N) hj.symm

end Cert.KernelIdeal.Block
-- ==== Proof.ReferenceScores.lean ====
/- What the reference computes of the image features and the text rows: activations and scores. -/
module

public import proofs.«01_k».proof.Proof.Arrays
public import proofs.«01_k».proof.Proof.Gen.ReferenceIdeal.Read

@[expose] public section

noncomputable section

namespace Cert.ReferenceIdeal.Rows

open Cert.ReferenceIdeal Cert.ReferenceIdeal.Gen Cert.ReferenceIdeal.Read Idealize.ShloMosaic Cert.Model

variable {D : Data} {x0 : (⟨S64x576x768, .f32⟩ : BufTy).Contents (Elt Ideal)} {x1 : (⟨S64x77x768, .f32⟩ : BufTy).Contents (Elt Ideal)}
  {x2 : (⟨S64x768, .f32⟩ : BufTy).Contents (Elt Ideal)} {x3 : (⟨S64, .f32⟩ : BufTy).Contents (Elt Ideal)}
  {x4 : (⟨S768x64, .f32⟩ : BufTy).Contents (Elt Ideal)} {x5 : (⟨S768, .f32⟩ : BufTy).Contents (Elt Ideal)}
  {x6 : (⟨S1x16x64, .f32⟩ : BufTy).Contents (Elt Ideal)} {x7 : (⟨S192x64, .f32⟩ : BufTy).Contents (Elt Ideal)}
  {x8 : (⟨S192, .f32⟩ : BufTy).Contents (Elt Ideal)} {x9 : (⟨S64x64, .f32⟩ : BufTy).Contents (Elt Ideal)}
  {x10 x11 x12 : (⟨S64, .f32⟩ : BufTy).Contents (Elt Ideal)} {x13 : (⟨S_, .f32⟩ : BufTy).Contents (Elt Ideal)}
  (h : D.Holds x0 x1 x2 x3 x4 x5 x6 x7 x8 x9 x10 x11 x12 x13)

include h

/-- The image features, read at an index. -/
theorem g0 (j : S64x576x768.Idx) : x0 j = ((D.x0 (j 0) (j 1) (j 2) : ℝ) : EReal) := (congrArg x0 (eq_ix3 j)).trans (h.h0 _ _ _)
/-- The text features, read at an index. -/
theorem g1 (j : S64x77x768.Idx) : x1 j = ((D.x1 (j 0) (j 1) (j 2) : ℝ) : EReal) := (congrArg x1 (eq_ix3 j)).trans (h.h1 _ _ _)
/-- The weights of the down projection, read at an index. -/
theorem g2 (j : S64x768.Idx) : x2 j = ((D.x2 (j 0) (j 1) : ℝ) : EReal) := (congrArg x2 (eq_ix2 j)).trans (h.h2 _ _)
/-- The biases of the down projection, read at an index. -/
theorem g3 (j : S64.Idx) : x3 j = ((D.x3 (j 0) : ℝ) : EReal) := (congrArg x3 (eq_ix1 j)).trans (h.h3 _)

/-- The features of a token after the down projection. -/
theorem down_apply (j : S64x576x64.Idx) :
    val_main_v4 (F := Ideal) x0 x2 x3 j = ((∑ c, D.x0 (j 0) (j 1) c * D.x2 (j 2) c + D.x3 (j 2) : ℝ) : EReal) := by
  simp only [val_main_v4_apply, val_main_v3_apply, val_main_v2_apply, val_main_v1_apply, val_main_v0_apply, g0 h, g2 h, g3 h,
    Ideal.addf_def, ← EReal.coe_mul, coe_sum, ← EReal.coe_add]
  rfl

/-- The activations. -/
theorem act_apply (j : S64x576x64.Idx) :
    val_main_v11 (F := Ideal) x0 x2 x3 j = ((D.params.acts (D.x0 (j 0)) (j 1) (j 2) : ℝ) : EReal) := by
  simp only [val_main_v11_apply, val_main_v10_apply, val_main_v9_apply, val_main_v8_apply, val_main_v7_apply, val_main_v6_apply,
    val_main_v5_apply, val_main_cst_apply, val_main_cst_0_apply, down_apply h, Ideal.mulf_def, Ideal.hostUnary_erfc_def, Ideal.hostNegf_def,
    Ideal.negf_def, neg_mul, Ideal.erfc_neg, ofBits_apply, bits_half, bits_rootHalf, ← EReal.coe_mul, coe_erf, ← EReal.coe_one, ← EReal.coe_add]
  rfl

/-- The norms of the activations. -/
theorem actNorm_apply (j : S64x576x1.Idx) :
    val_main_v19 (F := Ideal) x0 x2 x3 j = ((rowNorm (D.params.acts (D.x0 (j 0)) (j 1)) : ℝ) : EReal) := by
  have hn : 0 ≤ ∑ d, D.params.acts (D.x0 (j 0)) (j 1) d * D.params.acts (D.x0 (j 0)) (j 1) d :=
    Finset.sum_nonneg fun d _ => mul_self_nonneg _
  simp only [val_main_v19_apply, val_main_v18_apply, val_main_v17_apply, val_main_v16_apply, val_main_v15_apply, val_main_v14_apply,
    val_main_cst_1_apply, val_main_cst_2_apply, act_apply h, Ideal.mulf_def, Ideal.maximumf_def, Ideal.hostUnary_sqrt_def, ofBits_apply,
    bits_tiny, Ideal.ofBits_zero_f32, zero_add, ← EReal.coe_mul, coe_sum]
  refine (congrArg (fun u => max u (tiny : EReal)) (coe_sqrt hn)).trans ?_
  rw [coe_max]
  rfl

/-- The text rows. -/
theorem text_apply (j : S64x1x64.Idx) : val_main_v13 (F := Ideal) x1 j = ((D.text (j 0) (j 2) : ℝ) : EReal) := by
  obtain ⟨i, u, d, rfl⟩ : ∃ i u d, j = ix3 i u d := ⟨_, _, _, eq_ix3 j⟩
  obtain rfl : u = 0 := Subsingleton.elim _ _
  simp only [val_main_v13_apply, val_main_v12_apply, g1 h]
  rfl

/-- The norms of the text rows. -/
theorem textNorm_apply (j : S64x1x1.Idx) : val_main_v27 (F := Ideal) x1 j = ((rowNorm (D.text (j 0)) : ℝ) : EReal) := by
  have hn : 0 ≤ ∑ d, D.text (j 0) d * D.text (j 0) d := Finset.sum_nonneg fun d _ => mul_self_nonneg _
  simp only [val_main_v27_apply, val_main_v26_apply, val_main_v25_apply, val_main_v24_apply, val_main_v23_apply, val_main_v22_apply,
    val_main_cst_3_apply, val_main_cst_4_apply, text_apply h, Ideal.mulf_def, Ideal.maximumf_def, Ideal.hostUnary_sqrt_def, ofBits_apply,
    bits_tiny, Ideal.ofBits_zero_f32, zero_add, ← EReal.coe_mul, coe_sum]
  refine (congrArg (fun u => max u (tiny : EReal)) (coe_sqrt hn)).trans ?_
  rw [coe_max]
  rfl

/-- The scores. -/
theorem score_apply (i : Fin 64) (n : Fin 576) :
    val_main_v31 (F := Ideal) x0 x1 x2 x3 (ix2 i n) = ((D.params.scores (D.x0 i) (D.text i) n : ℝ) : EReal) := by
  have hi : idx_main_v31 (ix2 i n) = ix3 i n 0 := by
    funext a
    apply Fin.ext
    match a with
    | ⟨0, _⟩ => show (i.val * 576 + n.val) / 576 = i.val; omega
    | ⟨1, _⟩ => show (i.val * 576 + n.val) / 1 % 576 = n.val; omega
    | ⟨2, _⟩ => rfl
  have hd (a s : Fin 64 → ℝ) (k : Fin 64) : Ideal.div (a k : EReal) (rowNorm a : EReal) * Ideal.div (s k : EReal) (rowNorm s : EReal)
      = ((a k / rowNorm a * (s k / rowNorm s) : ℝ) : EReal) := by
    rw [coe_div (rowNorm_pos a).ne', coe_div (rowNorm_pos s).ne', ← EReal.coe_mul]
  rw [val_main_v31_apply, hi]
  simp only [val_main_v30_apply, val_main_v29_apply, val_main_v28_apply, val_main_v21_apply, val_main_v20_apply, act_apply h, actNorm_apply h,
    text_apply h, textNorm_apply h, Ideal.hostDivf_def]
  refine (Finset.sum_congr rfl fun k _ => hd (D.params.acts (D.x0 i) n) (D.text i) k).trans ?_
  rw [coe_sum]
  rfl

end Cert.ReferenceIdeal.Rows
-- ==== Proof.ReferenceSelect.lean ====
/- What the reference selects: the sorted positions of the 64 best tokens of an image, the rows gathered there and the
   rows scattered there. -/
module

public import proofs.«01_k».proof.Proof.ReferenceScores
public import Idealize.ShloMosaic.Lib.SortFacts
public import Idealize.ShloMosaic.Lib.Routing.OpsSet

@[expose] public section

noncomputable section

namespace Cert.ReferenceIdeal.Rows

open Cert.ReferenceIdeal Cert.ReferenceIdeal.Gen Cert.ReferenceIdeal.Read Idealize.ShloMosaic Cert.Model

section Layout

variable {α : Type} {a n k : ℕ}

/-- Another place in the same row. -/
theorem along_ix2 (i : Fin a) (r m : Fin n) : Shape.Idx.along (s := ⟨2, ![a, n]⟩) (ix2 i r) 1 m = ix2 i m := by
  funext e
  match e with
  | ⟨0, _⟩ => rfl
  | ⟨1, _⟩ => rfl

/-- Each row sorted. -/
theorem sort_rows (cmp : α → α → BitVec 1) (x : (⟨2, ![a, n]⟩ : Shape).Idx → α) (i : Fin a) (r : Fin n) :
    Host.sort ⟨2, ![a, n]⟩ 1 cmp x (ix2 i r) = x (ix2 i (sortedFrom (fun m m' => cmp (x (ix2 i m)) (x (ix2 i m')) == 1#1) r)) := by
  have e (m : Fin n) : Shape.Idx.along (s := ⟨2, ![a, n]⟩) (ix2 i r) 1 m = ix2 i m := along_ix2 i r m
  show x (Shape.Idx.along (s := ⟨2, ![a, n]⟩) (ix2 i r) 1 (sortedFrom (fun m m' : Fin n => cmp (x (Shape.Idx.along (s := ⟨2, ![a, n]⟩) (ix2 i r) 1 m))
    (x (Shape.Idx.along (s := ⟨2, ![a, n]⟩) (ix2 i r) 1 m')) == 1#1) r)) = _
  simp only [e]
  exact congrArg x (along_ix2 i r _)

/-- The positions of the greatest elements of each row. -/
theorem topK_positions (gt : α → α → BitVec 1) (x : (⟨2, ![a, n]⟩ : Shape).Idx → α) (h : (⟨2, ![a, n]⟩ : Shape).Slices (fun _ => 0) ⟨2, ![a, k]⟩)
    (hk : k ≤ n) (i : Fin a) (r : Fin k) :
    (Host.topK ⟨2, ![a, k]⟩ 1 gt x h).2 (ix2 i r)
      = BitVec.ofNat 32 (sortedFrom (fun m m' => gt (x (ix2 i m)) (x (ix2 i m')) == 1#1) (Fin.castLE hk r)).val := by
  have e (m : Fin n) : Shape.Idx.along (s := ⟨2, ![a, n]⟩) (ix2 i (Fin.castLE hk r)) 1 m = ix2 i m := along_ix2 i _ m
  unfold Host.topK
  dsimp only
  refine (extractStridedSlice_apply _ _ _ (ix2 i r) (ix2 i (Fin.castLE hk r)) ?_).trans ?_
  · intro b
    match b with
    | ⟨0, _⟩ => exact (Nat.zero_add _).symm
    | ⟨1, _⟩ => exact (Nat.zero_add _).symm
  · show BitVec.ofNat 32 ((Shape.Idx.along (s := ⟨2, ![a, n]⟩) (ix2 i (Fin.castLE hk r)) 1 (sortedFrom (fun m m' : Fin n =>
      gt (x (Shape.Idx.along (s := ⟨2, ![a, n]⟩) (ix2 i (Fin.castLE hk r)) 1 m))
        (x (Shape.Idx.along (s := ⟨2, ![a, n]⟩) (ix2 i (Fin.castLE hk r)) 1 m')) == 1#1) (Fin.castLE hk r)) 1).val) = _
    simp only [e]
    rfl

end Layout

section Positions

variable (x0 : (⟨S64x576x768, .f32⟩ : BufTy).Contents (Elt Ideal)) (x1 : (⟨S64x77x768, .f32⟩ : BufTy).Contents (Elt Ideal))
  (x2 : (⟨S64x768, .f32⟩ : BufTy).Contents (Elt Ideal)) (x3 : (⟨S64, .f32⟩ : BufTy).Contents (Elt Ideal))

/-- The order by score of the tokens of an image. -/
def before (i : Fin 64) (k k' : Fin 576) : Bool :=
  FloatOps.cmpfTotal (F := Ideal) (φ := .f32) .gt (val_main_v31 (F := Ideal) x0 x1 x2 x3 (ix2 i k)) (val_main_v31 (F := Ideal) x0 x1 x2 x3 (ix2 i k')) == 1#1

/-- The order by position of the best tokens of an image. -/
def earlier (i : Fin 64) (k k' : Fin 64) : Bool :=
  comparator_i32_d1 (val_main_indices (F := Ideal) x0 x1 x2 x3 (ix2 i k)) (val_main_indices (F := Ideal) x0 x1 x2 x3 (ix2 i k')) == 1#1

/-- The `r`-th chosen token of an image. -/
def chosen (i r : Fin 64) : Fin 576 :=
  sortedFrom (before x0 x1 x2 x3 i) (Fin.castLE (by decide) (sortedFrom (earlier x0 x1 x2 x3 i) r))

/-- The reference chooses no token twice. -/
theorem chosen_injective (i : Fin 64) : Function.Injective (chosen x0 x1 x2 x3 i) := by
  intro a b hab
  unfold chosen at hab
  exact sortedFrom_injective _ (Fin.castLE_injective _ (sortedFrom_injective _ hab))

/-- The chosen positions. -/
theorem sorted_apply (i r : Fin 64) :
    val_main_v32 (F := Ideal) x0 x1 x2 x3 (ix2 i r) = BitVec.ofNat 32 (chosen x0 x1 x2 x3 i r).val := by
  unfold val_main_v32
  rw [sort_rows]
  change val_main_indices (F := Ideal) x0 x1 x2 x3 (ix2 i (sortedFrom (earlier x0 x1 x2 x3 i) r)) = _
  unfold chosen
  generalize sortedFrom (earlier x0 x1 x2 x3 i) r = q
  unfold val_main_indices
  rw [topK_positions (hk := by decide)]
  rfl

/-- The pairs of an image and a token that the gather and the scatter read. -/
theorem wrapped_apply (i r : Fin 64) :
    val_main_v44 (F := Ideal) x0 x1 x2 x3 (ix2 i r) = BitVec.ofNat 32 (chosen x0 x1 x2 x3 i r).val := by
  rw [val_main_v44_apply, val_main_v41_apply, val_main_v40_apply, val_main_c_6_apply, sorted_apply]
  exact Routing.wrap_of_lt _ _ (by rw [BitVec.toNat_ofNat]; have := (chosen x0 x1 x2 x3 i r).isLt; omega)

/-- The numbers of the images. -/
theorem image_apply (j : S64x1.Idx) : val_main_v39 (F := Ideal) j = BitVec.ofNat 32 (j 0).val := by
  rw [val_main_v39_apply, val_main_v36_apply, val_main_v35_apply, val_main_c_apply, val_main_v34_apply, val_main_v33_apply]
  exact Routing.wrap_of_lt _ _ (by rw [BitVec.toNat_ofNat]; have : (j 0).val < 64 := (j 0).isLt; show (j 0).val % _ < _; omega)

/-- The first component of a pair is the image. -/
theorem pair_image (i r : Fin 64) : val_main_v48 (F := Ideal) x0 x1 x2 x3 (ix3 i r 0) = BitVec.ofNat 32 i.val := by
  unfold val_main_v48
  refine (concatenate_pair_apply_left (t := S64x64x2) (s₁ := S64x64x1) (s₂ := S64x64x1) 2 _ _ _ (ix3 i r 0) rfl (ix3 i r 0) ?_).trans ?_
  · intro b
    match b with
    | ⟨0, _⟩ => rfl
    | ⟨1, _⟩ => rfl
    | ⟨2, _⟩ => rfl
  · rw [val_main_v46_apply, val_main_v45_apply, image_apply]
    rfl

/-- The second component of a pair is the chosen token. -/
theorem pair_token (i r : Fin 64) : val_main_v48 (F := Ideal) x0 x1 x2 x3 (ix3 i r 1) = BitVec.ofNat 32 (chosen x0 x1 x2 x3 i r).val := by
  unfold val_main_v48
  refine (concatenate_pair_apply_right (t := S64x64x2) (s₁ := S64x64x1) (s₂ := S64x64x1) 2 _ _ _ (ix3 i r 1) rfl rfl (ix3 i r 0) ?_ rfl).trans ?_
  · intro b hb
    match b with
    | ⟨0, _⟩ => rfl
    | ⟨1, _⟩ => rfl
    | ⟨2, _⟩ => exact absurd rfl hb
  · have e : idx_main_v47 (ix3 i r 0) = ix2 i r := by
      funext b
      match b with
      | ⟨0, _⟩ => rfl
      | ⟨1, _⟩ => rfl
    rw [val_main_v47_apply, e, wrapped_apply]

/-- The scatter reads the same tokens as the gather. -/
theorem wrapped_eq : val_main_v127 (F := Ideal) x0 x1 x2 x3 = val_main_v44 (F := Ideal) x0 x1 x2 x3 := by
  unfold val_main_v127 val_main_v44 val_main_v124 val_main_v41 val_main_v126 val_main_v43
  generalize val_main_v32 (F := Ideal) x0 x1 x2 x3 = s
  rfl
/-- The scatter reads the same images as the gather. -/
theorem images_eq : val_main_v129 (F := Ideal) = val_main_v46 := rfl

/-- The scatter's pairs are the gather's. -/
theorem pairs_eq : val_main_v131 (F := Ideal) x0 x1 x2 x3 = val_main_v48 (F := Ideal) x0 x1 x2 x3 := by
  unfold val_main_v131 val_main_v48 val_main_v130 val_main_v47
  rw [wrapped_eq, images_eq]

/-- How the gather reads its pairs. -/
abbrev gd : GatherDims S64x576x64 S64x64x2 S64x64x64 := gather_S64x576x64_S64x64x2_S64x64x64_2_01_n_n_01_2_1164

/-- Where the gather reads a pair's two components. -/
theorem gather_pair (i r d : Fin 64) (c : Fin 2) (hc : c.val < gd.startIndexMap.length) : gd.siIdx (ix3 i r d) ⟨c.val, hc⟩ = ix3 i r c := by
  funext b
  apply Fin.ext
  match b with
  | ⟨0, _⟩ => rfl
  | ⟨1, _⟩ => rfl
  | ⟨2, _⟩ => rfl

/-- The element that the gather reads, from the pairs. -/
theorem gather_index (s : IVec S64x64x2 32) (i r d : Fin 64) (n : Fin 576) (h0 : s (ix3 i r 0) = BitVec.ofNat 32 i.val)
    (h1 : s (ix3 i r 1) = BitVec.ofNat 32 n.val) : gd.operandIdx (ix3 i r d) s = ix3 i n d := by
  funext a
  apply Fin.ext
  match a with
  | ⟨0, _⟩ =>
    show min (s (gd.siIdx (ix3 i r d) ⟨(0 : Fin 2).val, by decide⟩)).toInt.toNat (64 - 1) + 0 + 0 = i.val
    rw [gather_pair, h0, toInt_ofNat (by omega)]
    omega
  | ⟨1, _⟩ =>
    show min (s (gd.siIdx (ix3 i r d) ⟨(1 : Fin 2).val, by decide⟩)).toInt.toNat (576 - 1) + 0 + 0 = n.val
    rw [gather_pair, h1, toInt_ofNat (by omega)]
    omega
  | ⟨2, _⟩ =>
    show 0 + 0 + d.val = d.val
    omega

/-- The rows that the reference gathers. -/
theorem gather_apply (i r d : Fin 64) :
    val_main_v49 (F := Ideal) x0 x1 x2 x3 (ix3 i r d) = val_main_v11 (F := Ideal) x0 x2 x3 (ix3 i (chosen x0 x1 x2 x3 i r) d) := by
  unfold val_main_v49 Host.gather
  rw [gather_index _ i r d (chosen x0 x1 x2 x3 i r) (pair_image x0 x1 x2 x3 i r) (pair_token x0 x1 x2 x3 i r)]

/-- How the scatter reads its pairs. -/
abbrev sd : ScatterDims S64x576x64 S64x64x2 S64x64x64 := scatter_S64x576x64_S64x64x2_S64x64x64_2_01_01_2

/-- Where the scatter reads a pair's two components. -/
theorem scatter_pair (i r d : Fin 64) (c : Fin 2) (hc : c.val < sd.scatterDimsToOperandDims.length) : sd.siIdx (ix3 i r d) ⟨c.val, hc⟩ = ix3 i r c := by
  funext b
  apply Fin.ext
  match b with
  | ⟨0, _⟩ => rfl
  | ⟨1, _⟩ => rfl
  | ⟨2, _⟩ => rfl

/-- Where an update lands, from the pairs. -/
theorem scatter_index (s : IVec S64x64x2 32) (i r d : Fin 64) (n : Fin 576) (h0 : s (ix3 i r 0) = BitVec.ofNat 32 i.val)
    (h1 : s (ix3 i r 1) = BitVec.ofNat 32 n.val) : sd.resultIdx? (ix3 i r d) s = some (ix3 i n d) := by
  rw [Routing.resultIdx?_eq_some]
  intro a
  match a with
  | ⟨0, _⟩ =>
    show (s (sd.siIdx (ix3 i r d) ⟨(0 : Fin 2).val, by decide⟩)).toInt + ((0 : ℕ) : ℤ) = (i.val : ℤ)
    rw [scatter_pair, h0, toInt_ofNat (by omega)]
    omega
  | ⟨1, _⟩ =>
    show (s (sd.siIdx (ix3 i r d) ⟨(1 : Fin 2).val, by decide⟩)).toInt + ((0 : ℕ) : ℤ) = (n.val : ℤ)
    rw [scatter_pair, h1, toInt_ofNat (by omega)]
    omega
  | ⟨2, _⟩ =>
    show (0 : ℤ) + (d.val : ℤ) = (d.val : ℤ)
    omega

/-- The scattered rows: a chosen token's row is its update. -/
theorem scatter_hit {x : S64x576x64.Idx → EReal} {s : IVec S64x64x2 32} {u : S64x64x64.Idx → EReal} {p : Fin 64 → Fin 64 → Fin 576}
    (hp : ∀ i, Function.Injective (p i)) (h0 : ∀ i r, s (ix3 i r 0) = BitVec.ofNat 32 i.val)
    (h1 : ∀ i r, s (ix3 i r 1) = BitVec.ofNat 32 (p i r).val) (i r d : Fin 64) :
    Host.scatter sd (fun _ b => b) x s u (ix3 i (p i r) d) = u (ix3 i r d) := by
  refine Routing.scatter_set_hit sd x s u _ _ (fun k hk => ?_) (ix3 i r d) (scatter_index s i r d _ (h0 i r) (h1 i r))
  obtain ⟨i', r', d', rfl⟩ : ∃ a b c, k = ix3 a b c := ⟨_, _, _, eq_ix3 k⟩
  rw [scatter_index s i' r' d' _ (h0 i' r') (h1 i' r')] at hk
  have hk := Option.some.inj hk
  obtain rfl : i' = i := congrFun hk 0
  obtain rfl : r' = r := hp i' (congrFun hk 1)
  obtain rfl : d' = d := congrFun hk 2
  rfl

/-- The scattered rows: any other token's row is the operand's. -/
theorem scatter_miss {x : S64x576x64.Idx → EReal} {s : IVec S64x64x2 32} {u : S64x64x64.Idx → EReal} {p : Fin 64 → Fin 64 → Fin 576}
    (h0 : ∀ i r, s (ix3 i r 0) = BitVec.ofNat 32 i.val)
    (h1 : ∀ i r, s (ix3 i r 1) = BitVec.ofNat 32 (p i r).val) (i : Fin 64) (n : Fin 576) (d : Fin 64) (hn : ∀ r, p i r ≠ n) :
    Host.scatter sd (fun _ b => b) x s u (ix3 i n d) = x (ix3 i n d) := by
  refine Routing.scatter_set_miss sd x s u _ fun k hk => ?_
  obtain ⟨i', r', d', rfl⟩ : ∃ a b c, k = ix3 a b c := ⟨_, _, _, eq_ix3 k⟩
  rw [scatter_index s i' r' d' _ (h0 i' r') (h1 i' r')] at hk
  have hk := Option.some.inj hk
  obtain rfl : i' = i := congrFun hk 0
  exact hn r' (congrFun hk 1)

end Positions

section Ranks

variable {D : Data} {x0 : (⟨S64x576x768, .f32⟩ : BufTy).Contents (Elt Ideal)} {x1 : (⟨S64x77x768, .f32⟩ : BufTy).Contents (Elt Ideal)}
  {x2 : (⟨S64x768, .f32⟩ : BufTy).Contents (Elt Ideal)} {x3 : (⟨S64, .f32⟩ : BufTy).Contents (Elt Ideal)}

/-- Each chosen token is among the best 64. -/
theorem rank_chosen (hs : ∀ i n, val_main_v31 (F := Ideal) x0 x1 x2 x3 (ix2 i n) = ((D.params.scores (D.x0 i) (D.text i) n : ℝ) : EReal))
    (i r : Fin 64) : rank (D.params.scores (D.x0 i) (D.text i)) (chosen x0 x1 x2 x3 i r) < 64 := by
  have hb (k k' : Fin 576) : before x0 x1 x2 x3 i k k'
      = decide (D.params.scores (D.x0 i) (D.text i) k' < D.params.scores (D.x0 i) (D.text i) k) := by
    unfold before
    rw [Ideal.cmpfTotal_def, hs, hs]
    refine (congrArg (· == 1#1) (coe_gt _ _)).trans ?_
    split
    · next h => simp [h]
    · next h => simp [h]
  unfold chosen
  generalize sortedFrom (earlier x0 x1 x2 x3 i) r = q
  refine lt_of_le_of_lt (rank_le_of_sorted (sortedFrom_surjective (before x0 x1 x2 x3 i)) (fun a b hab => ?_) _) q.isLt
  have := sortedFrom_noInversion (before x0 x1 x2 x3 i) (before x0 x1 x2 x3 i) ?_ (fun _ _ h => h) ?_ a b hab
  · rw [hb] at this
    exact of_decide_eq_false this
  · intro a b h
    rw [hb] at h ⊢
    exact decide_eq_false (not_lt.2 (of_decide_eq_true h).le)
  · intro a b c h h'
    rw [hb] at h h' ⊢
    exact decide_eq_false (not_lt.2 ((not_lt.1 (of_decide_eq_false h)).trans (not_lt.1 (of_decide_eq_false h'))))

end Ranks

end Cert.ReferenceIdeal.Rows
-- ==== Proof.ReferenceRows.lean ====
/- The rows that the reference's attention reads: the learned queries and the gathered tokens, their layer normalisation, and the
   queries, keys and values computed of them. -/
module

public import proofs.«01_k».proof.Proof.ReferenceSelect

@[expose] public section

noncomputable section

namespace Cert.ReferenceIdeal.Rows

open Cert.ReferenceIdeal Cert.ReferenceIdeal.Gen Cert.ReferenceIdeal.Read Idealize.ShloMosaic Cert.Model

variable {D : Data} {x0 : (⟨S64x576x768, .f32⟩ : BufTy).Contents (Elt Ideal)} {x1 : (⟨S64x77x768, .f32⟩ : BufTy).Contents (Elt Ideal)}
  {x2 : (⟨S64x768, .f32⟩ : BufTy).Contents (Elt Ideal)} {x3 : (⟨S64, .f32⟩ : BufTy).Contents (Elt Ideal)}
  {x4 : (⟨S768x64, .f32⟩ : BufTy).Contents (Elt Ideal)} {x5 : (⟨S768, .f32⟩ : BufTy).Contents (Elt Ideal)}
  {x6 : (⟨S1x16x64, .f32⟩ : BufTy).Contents (Elt Ideal)} {x7 : (⟨S192x64, .f32⟩ : BufTy).Contents (Elt Ideal)}
  {x8 : (⟨S192, .f32⟩ : BufTy).Contents (Elt Ideal)} {x9 : (⟨S64x64, .f32⟩ : BufTy).Contents (Elt Ideal)}
  {x10 x11 x12 : (⟨S64, .f32⟩ : BufTy).Contents (Elt Ideal)} {x13 : (⟨S_, .f32⟩ : BufTy).Contents (Elt Ideal)}
  (h : D.Holds x0 x1 x2 x3 x4 x5 x6 x7 x8 x9 x10 x11 x12 x13)

/-- Row `j` of image `i`: a learned query, or a token that the reference chose. -/
def row (D : Data) (x0 : (⟨S64x576x768, .f32⟩ : BufTy).Contents (Elt Ideal)) (x1 : (⟨S64x77x768, .f32⟩ : BufTy).Contents (Elt Ideal))
    (x2 : (⟨S64x768, .f32⟩ : BufTy).Contents (Elt Ideal)) (x3 : (⟨S64, .f32⟩ : BufTy).Contents (Elt Ideal)) (i : Fin 64) (j : Fin 80) :
    Fin 64 → ℝ :=
  rows D.x6 (D.params.acts (D.x0 i)) (chosen x0 x1 x2 x3 i) j

include h

/-- The learned queries, read at an index. -/
theorem g6 (j : S1x16x64.Idx) : x6 j = ((D.x6 (j 1) (j 2) : ℝ) : EReal) := by
  obtain ⟨u, q, d, rfl⟩ : ∃ u q d, j = ix3 u q d := ⟨_, _, _, eq_ix3 j⟩
  obtain rfl : u = 0 := Subsingleton.elim _ _
  exact h.h6 q d
/-- The weights of the three linear layers, read at an index. -/
theorem g7 (j : S192x64.Idx) : x7 j = ((D.x7 (j 0) (j 1) : ℝ) : EReal) := (congrArg x7 (eq_ix2 j)).trans (h.h7 _ _)
/-- The biases of the three linear layers, read at an index. -/
theorem g8 (j : S192.Idx) : x8 j = ((D.x8 (j 0) : ℝ) : EReal) := (congrArg x8 (eq_ix1 j)).trans (h.h8 _)
/-- The scale of the layer normalisation, read at an index. -/
theorem g11 (j : S64.Idx) : x11 j = ((D.x11 (j 0) : ℝ) : EReal) := (congrArg x11 (eq_ix1 j)).trans (h.h11 _)
/-- The shift of the layer normalisation, read at an index. -/
theorem g12 (j : S64.Idx) : x12 j = ((D.x12 (j 0) : ℝ) : EReal) := (congrArg x12 (eq_ix1 j)).trans (h.h12 _)

/-- The 80 rows of each image. -/
theorem row_apply (j : S64x80x64.Idx) :
    val_main_v51 (F := Ideal) x0 x1 x2 x3 x6 j = ((row D x0 x1 x2 x3 (j 0) (j 1) (j 2) : ℝ) : EReal) := by
  obtain ⟨i, k, d, rfl⟩ : ∃ i k d, j = ix3 i k d := ⟨_, _, _, eq_ix3 j⟩
  show _ = ((row D x0 x1 x2 x3 i k d : ℝ) : EReal)
  unfold val_main_v51 row rows
  by_cases hk : k.val < 16
  · rw [dif_pos hk]
    refine (concatenate_pair_apply_left (t := S64x80x64) (s₁ := S64x16x64) (s₂ := S64x64x64) 1 _ _ _ (ix3 i k d) rfl
      (ix3 i (⟨k.val, hk⟩ : Fin 16) d) ?_).trans ?_
    · intro e
      match e with
      | ⟨0, _⟩ => rfl
      | ⟨1, _⟩ => rfl
      | ⟨2, _⟩ => rfl
    · rw [val_main_v50_apply, g6 h]
      rfl
  · rw [dif_neg hk]
    refine (concatenate_pair_apply_right (t := S64x80x64) (s₁ := S64x16x64) (s₂ := S64x64x64) 1 _ _ _ (ix3 i k d) rfl rfl
      (ix3 i (⟨k.val - 16, by omega⟩ : Fin 64) d) ?_ ?_).trans ?_
    · intro e he
      match e with
      | ⟨0, _⟩ => rfl
      | ⟨1, _⟩ => exact absurd rfl he
      | ⟨2, _⟩ => rfl
    · show k.val - 16 + 16 = k.val
      omega
    · rw [gather_apply, act_apply h]
      rfl

/-- The means of the rows, before and after the variance's own computation of them. -/
theorem mean_apply (j : S64x80x1.Idx) :
    val_main_v55 (F := Ideal) x0 x1 x2 x3 x6 j = ((mean (row D x0 x1 x2 x3 (j 0) (j 1)) : ℝ) : EReal) := by
  simp only [val_main_v55_apply, val_main_v54_apply, val_main_v53_apply, val_main_v52_apply, val_main_cst_8_apply, val_main_cst_9_apply,
    row_apply h, Ideal.hostDivf_def, ofBits_apply, bits_sixtyFour, Ideal.ofBits_zero_f32, zero_add, coe_sum]
  exact coe_div (by norm_num) _

/-- The variances of the rows. -/
theorem var_apply (j : S64x80x1.Idx) :
    val_main_v62 (F := Ideal) x0 x1 x2 x3 x6 j = ((var (row D x0 x1 x2 x3 (j 0) (j 1)) : ℝ) : EReal) := by
  simp only [val_main_v62_apply, val_main_v61_apply, val_main_v60_apply, val_main_v59_apply, val_main_v58_apply, val_main_v57_apply,
    val_main_v56_apply, val_main_cst_10_apply, val_main_cst_11_apply,
    row_apply h, mean_apply h, Ideal.hostDivf_def, Ideal.subf_def, Ideal.mulf_def, ofBits_apply, bits_sixtyFour, Ideal.ofBits_zero_f32,
    zero_add, ← EReal.coe_sub, ← EReal.coe_mul, coe_sum]
  exact coe_div (by norm_num) _

/-- The layer normalisation of the rows. -/
theorem norm_apply (j : S64x80x64.Idx) :
    val_main_v75 (F := Ideal) x0 x1 x2 x3 x6 x11 x12 j
      = ((layerNorm D.params.W (row D x0 x1 x2 x3 (j 0) (j 1)) (j 2) : ℝ) : EReal) := by
  simp only [val_main_v75_apply, val_main_v74_apply, val_main_v73_apply, val_main_v72_apply, val_main_v71_apply, val_main_v70_apply,
    val_main_v69_apply, val_main_v68_apply, val_main_v67_apply, val_main_v66_apply, val_main_v65_apply, val_main_v64_apply,
    val_main_v63_apply, val_main_cst_12_apply, row_apply h, mean_apply h, var_apply h, g11 h, g12 h, Ideal.hostDivf_def, Ideal.subf_def,
    Ideal.addf_def, Ideal.mulf_def, Ideal.hostUnary_sqrt_def, ofBits_apply, bits_eps, ← EReal.coe_sub, ← EReal.coe_add]
  rw [coe_sqrt (var_eps_pos _).le, coe_div (Real.sqrt_pos.2 (var_eps_pos _)).ne', ← EReal.coe_mul, ← EReal.coe_add]
  rfl

/-- The three linear layers of the normalised rows, side by side. -/
theorem linear_apply (j : S64x80x192.Idx) :
    val_main_v80 (F := Ideal) x0 x1 x2 x3 x6 x7 x8 x11 x12 j
      = ((∑ k, layerNorm D.params.W (row D x0 x1 x2 x3 (j 0) (j 1)) k * D.x7 (j 2) k + D.x8 (j 2) : ℝ) : EReal) := by
  simp only [val_main_v80_apply, val_main_v79_apply, val_main_v78_apply, val_main_v77_apply, val_main_v76_apply, norm_apply h, g7 h, g8 h,
    Ideal.addf_def, ← EReal.coe_mul, coe_sum, ← EReal.coe_add]
  rfl

/-- The queries. -/
theorem query_apply (j : S64x80x64.Idx) : val_main_v81 (F := Ideal) x0 x1 x2 x3 x6 x7 x8 x11 x12 j
    = ((query D.params.W (row D x0 x1 x2 x3 (j 0) (j 1)) (j 2) : ℝ) : EReal) := by
  rw [val_main_v81_apply, linear_apply h]
  rfl

/-- The keys. -/
theorem key_apply (j : S64x80x64.Idx) : val_main_v82 (F := Ideal) x0 x1 x2 x3 x6 x7 x8 x11 x12 j
    = ((key D.params.W (row D x0 x1 x2 x3 (j 0) (j 1)) (j 2) : ℝ) : EReal) := by
  rw [val_main_v82_apply, linear_apply h]
  rfl

/-- The values. -/
theorem value_apply (j : S64x80x64.Idx) : val_main_v83 (F := Ideal) x0 x1 x2 x3 x6 x7 x8 x11 x12 j
    = ((value D.params.W (row D x0 x1 x2 x3 (j 0) (j 1)) (j 2) : ℝ) : EReal) := by
  rw [val_main_v83_apply, linear_apply h]
  rfl

end Cert.ReferenceIdeal.Rows
-- ==== Proof.ReferenceAttention.lean ====
/- The attention of the reference: the scaled products of queries and keys, their softmax, what each row reads of the values, and the
   rows after the output projection. -/
module

public import proofs.«01_k».proof.Proof.ReferenceRows

@[expose] public section

noncomputable section

namespace Cert.ReferenceIdeal.Rows

open Cert.ReferenceIdeal Cert.ReferenceIdeal.Gen Cert.ReferenceIdeal.Read Idealize.ShloMosaic Cert.Model

/-- The literal 16. -/
theorem bits_sixteen : Ideal.ofBits .f32 0x41800000#32 = ((16 : ℝ) : EReal) := by
  simp [Ideal.ofBits, Ideal.ieee, -EReal.coe_mul]; norm_num

/-- The square root of 16. -/
theorem sqrt_sixteen : Ideal.sqrt ((16 : ℝ) : EReal) = ((4 : ℝ) : EReal) := by
  rw [coe_sqrt (by norm_num), show (16 : ℝ) = 4 * 4 by norm_num, Real.sqrt_mul_self (by norm_num)]

/-- A fold of the maximum from a real number over real numbers is real. -/
theorem foldl_max_coe {ι : Type*} (f : ι → ℝ) (l : List ι) (a : ℝ) :
    ∃ M : ℝ, l.foldl (fun r n => FloatOps.maximumf (F := Ideal) (φ := .f32) r ((f n : ℝ) : EReal)) ((a : ℝ) : EReal) = ((M : ℝ) : EReal) := by
  induction l generalizing a with
  | nil => exact ⟨a, rfl⟩
  | cons n l ih =>
    obtain ⟨M, hM⟩ := ih (max a (f n))
    refine ⟨M, Eq.trans ?_ hM⟩
    rw [← coe_max]
    rfl

/-- A fold of the maximum from the least value over real numbers, of which there is one, is real. -/
theorem foldl_max_bot {ι : Type*} (f : ι → ℝ) (l : List ι) (hl : l ≠ []) :
    ∃ M : ℝ, l.foldl (fun r n => FloatOps.maximumf (F := Ideal) (φ := .f32) r ((f n : ℝ) : EReal)) (⊥ : EReal) = ((M : ℝ) : EReal) := by
  obtain _ | ⟨n, l⟩ := l
  · exact absurd rfl hl
  · obtain ⟨M, hM⟩ := foldl_max_coe f l (f n)
    refine ⟨M, Eq.trans ?_ hM⟩
    show List.foldl _ (max (⊥ : EReal) _) l = _
    rw [max_eq_right bot_le]

/-- A maximum over axes, taken from the least value, of real numbers is real where there is one to take. -/
theorem reduce_max_real {s t u : Shape} {axes : List (Fin s.rank)} (x : s.Idx → Ideal .f32) (init : u.Idx → Ideal .f32)
    (h : s.ReducesTo axes t) (hu : 0 < u.numel) (j : t.Idx) (y : s.Idx → ℝ) (hx : ∀ i, x i = ((y i : ℝ) : EReal))
    (hi : ∀ i, init i = (⊥ : EReal)) (i : s.Idx) (hij : h.drop i = j) :
    ∃ M : ℝ, Host.reduce (FloatOps.maximumf (F := Ideal) (φ := .f32)) x init h hu j = ((M : ℝ) : EReal) := by
  unfold Host.reduce
  rw [hi]
  simp only [hx]
  refine foldl_max_bot (fun n => y (s.rowMajor.symm n)) _ ?_
  refine List.ne_nil_of_mem (a := s.rowMajor i) ?_
  simp [hij]

/-- A feature's head and its place in the head. -/
theorem head_feature (h : Fin 4) (e : Fin 16) : head (feature h e) = h :=
  Fin.ext (by show (16 * h.val + e.val) / 16 = h.val; omega)

/-- A feature is that of its head at its place there. -/
theorem feature_head (d : Fin 64) : feature (head d) ⟨d.val % 16, by omega⟩ = d :=
  Fin.ext (by show 16 * (d.val / 16) + d.val % 16 = d.val; omega)

variable {D : Data} {x0 : (⟨S64x576x768, .f32⟩ : BufTy).Contents (Elt Ideal)} {x1 : (⟨S64x77x768, .f32⟩ : BufTy).Contents (Elt Ideal)}
  {x2 : (⟨S64x768, .f32⟩ : BufTy).Contents (Elt Ideal)} {x3 : (⟨S64, .f32⟩ : BufTy).Contents (Elt Ideal)}
  {x4 : (⟨S768x64, .f32⟩ : BufTy).Contents (Elt Ideal)} {x5 : (⟨S768, .f32⟩ : BufTy).Contents (Elt Ideal)}
  {x6 : (⟨S1x16x64, .f32⟩ : BufTy).Contents (Elt Ideal)} {x7 : (⟨S192x64, .f32⟩ : BufTy).Contents (Elt Ideal)}
  {x8 : (⟨S192, .f32⟩ : BufTy).Contents (Elt Ideal)} {x9 : (⟨S64x64, .f32⟩ : BufTy).Contents (Elt Ideal)}
  {x10 x11 x12 : (⟨S64, .f32⟩ : BufTy).Contents (Elt Ideal)} {x13 : (⟨S_, .f32⟩ : BufTy).Contents (Elt Ideal)}
  (h : D.Holds x0 x1 x2 x3 x4 x5 x6 x7 x8 x9 x10 x11 x12 x13)

include h

/-- The queries by heads. -/
theorem headQuery_apply (j : S64x4x80x16.Idx) : val_main_v85 (F := Ideal) x0 x1 x2 x3 x6 x7 x8 x11 x12 j
    = ((query D.params.W (row D x0 x1 x2 x3 (j 0) (j 2)) (feature (j 1) (j 3)) : ℝ) : EReal) := by
  obtain ⟨i, k, r, e, rfl⟩ : ∃ i k r e, j = ix4 i k r e := ⟨_, _, _, _, eq_ix4 j⟩
  have he : idx_main_v84 (idx_main_v85 (ix4 i k r e)) = ix3 i r (feature k e) := by
    funext a
    apply Fin.ext
    match a with
    | ⟨0, _⟩ => show (((i.val * 80 + r.val) * 4 + k.val) * 16 + e.val) / 5120 = i.val; omega
    | ⟨1, _⟩ => show (((i.val * 80 + r.val) * 4 + k.val) * 16 + e.val) / 64 % 80 = r.val; omega
    | ⟨2, _⟩ => show (((i.val * 80 + r.val) * 4 + k.val) * 16 + e.val) % 64 = 16 * k.val + e.val; omega
  rw [val_main_v85_apply, val_main_v84_apply, he, query_apply h]
  rfl

/-- The keys by heads. -/
theorem headKey_apply (j : S64x4x80x16.Idx) : val_main_v87 (F := Ideal) x0 x1 x2 x3 x6 x7 x8 x11 x12 j
    = ((key D.params.W (row D x0 x1 x2 x3 (j 0) (j 2)) (feature (j 1) (j 3)) : ℝ) : EReal) := by
  obtain ⟨i, k, r, e, rfl⟩ : ∃ i k r e, j = ix4 i k r e := ⟨_, _, _, _, eq_ix4 j⟩
  have he : idx_main_v86 (idx_main_v87 (ix4 i k r e)) = ix3 i r (feature k e) := by
    funext a
    apply Fin.ext
    match a with
    | ⟨0, _⟩ => show (((i.val * 80 + r.val) * 4 + k.val) * 16 + e.val) / 5120 = i.val; omega
    | ⟨1, _⟩ => show (((i.val * 80 + r.val) * 4 + k.val) * 16 + e.val) / 64 % 80 = r.val; omega
    | ⟨2, _⟩ => show (((i.val * 80 + r.val) * 4 + k.val) * 16 + e.val) % 64 = 16 * k.val + e.val; omega
  rw [val_main_v87_apply, val_main_v86_apply, he, key_apply h]
  rfl

/-- The values by heads. -/
theorem headValue_apply (j : S64x4x80x16.Idx) : val_main_v89 (F := Ideal) x0 x1 x2 x3 x6 x7 x8 x11 x12 j
    = ((value D.params.W (row D x0 x1 x2 x3 (j 0) (j 2)) (feature (j 1) (j 3)) : ℝ) : EReal) := by
  obtain ⟨i, k, r, e, rfl⟩ : ∃ i k r e, j = ix4 i k r e := ⟨_, _, _, _, eq_ix4 j⟩
  have he : idx_main_v88 (idx_main_v89 (ix4 i k r e)) = ix3 i r (feature k e) := by
    funext a
    apply Fin.ext
    match a with
    | ⟨0, _⟩ => show (((i.val * 80 + r.val) * 4 + k.val) * 16 + e.val) / 5120 = i.val; omega
    | ⟨1, _⟩ => show (((i.val * 80 + r.val) * 4 + k.val) * 16 + e.val) / 64 % 80 = r.val; omega
    | ⟨2, _⟩ => show (((i.val * 80 + r.val) * 4 + k.val) * 16 + e.val) % 64 = 16 * k.val + e.val; omega
  rw [val_main_v89_apply, val_main_v88_apply, he, value_apply h]
  rfl

/-- The scaled products of queries and keys. -/
theorem logit_apply (j : S64x4x80x80.Idx) : val_main_v95 (F := Ideal) x0 x1 x2 x3 x6 x7 x8 x11 x12 j
    = (((∑ e, query D.params.W (row D x0 x1 x2 x3 (j 0) (j 2)) (feature (j 1) e)
        * key D.params.W (row D x0 x1 x2 x3 (j 0) (j 3)) (feature (j 1) e)) / 4 : ℝ) : EReal) := by
  simp only [val_main_v95_apply, val_main_v94_apply, val_main_v93_apply, val_main_v92_apply, val_main_v91_apply, val_main_v90_apply,
    val_main_cst_13_apply, headQuery_apply h, headKey_apply h, Ideal.hostDivf_def, Ideal.hostUnary_sqrt_def, ofBits_apply, bits_sixteen,
    sqrt_sixteen, ← EReal.coe_mul, coe_sum]
  exact coe_div (by norm_num) _

/-- The greatest product of a row is a real number. -/
theorem max_real (j : S64x4x80.Idx) : ∃ M : ℝ, val_main_v98 (F := Ideal) x0 x1 x2 x3 x6 x7 x8 x11 x12 j = ((M : ℝ) : EReal) := by
  obtain ⟨i, k, r, rfl⟩ : ∃ i k r, j = ix3 i k r := ⟨_, _, _, eq_ix3 j⟩
  have hc : ∀ u, val_main_cst_14 (F := Ideal) u = (⊥ : EReal) := fun u => by
    rw [val_main_cst_14_apply, ofBits_apply, bits_bot]
  obtain ⟨M, hM⟩ := reduce_max_real _ _ reducesTo_S64x4x80x80_S64x4x80_d3 h_S_ (ix3 i k r) _ (logit_apply h) hc (ix4 i k r (0 : Fin 80))
    (by funext a; match a with | ⟨0, _⟩ => rfl | ⟨1, _⟩ => rfl | ⟨2, _⟩ => rfl)
  refine ⟨M, ?_⟩
  rw [val_main_v98_apply, val_main_v97_apply, val_main_cst_15_apply, ofBits_apply, bits_bot, Ideal.maximumf_def, max_eq_right bot_le]
  exact hM

/-- The share that a row gives to another, of all that it gives. -/
theorem share_apply (j : S64x4x80x80.Idx) : val_main_v106 (F := Ideal) x0 x1 x2 x3 x6 x7 x8 x11 x12 j
    = ((weight (query D.params.W (row D x0 x1 x2 x3 (j 0) (j 2))) (key D.params.W (row D x0 x1 x2 x3 (j 0) (j 3))) (j 1)
        / ∑ k, weight (query D.params.W (row D x0 x1 x2 x3 (j 0) (j 2))) (key D.params.W (row D x0 x1 x2 x3 (j 0) k)) (j 1) : ℝ) : EReal) := by
  obtain ⟨i, a, r, s, rfl⟩ : ∃ i a r s, j = ix4 i a r s := ⟨_, _, _, _, eq_ix4 j⟩
  obtain ⟨M, hM⟩ := max_real h (ix3 i a r)
  have he : ∀ k : Fin 80, val_main_v102 (F := Ideal) x0 x1 x2 x3 x6 x7 x8 x11 x12 (ix4 i a r k)
      = ((weight (query D.params.W (row D x0 x1 x2 x3 i r)) (key D.params.W (row D x0 x1 x2 x3 i k)) a * (Real.exp M)⁻¹ : ℝ) : EReal) := by
    intro k
    have hi : idx_main_v99 (idx_main_v100 (ix4 i a r k)) = ix3 i a r := by
      funext a
      match a with
      | ⟨0, _⟩ => rfl
      | ⟨1, _⟩ => rfl
      | ⟨2, _⟩ => rfl
    rw [val_main_v102_apply, val_main_v101_apply, val_main_v100_apply, val_main_v99_apply, hi, hM, logit_apply h, Ideal.hostUnary_exp_def,
      Ideal.subf_def, ← EReal.coe_sub, coe_exp, sub_eq_add_neg, Real.exp_add, Real.exp_neg]
    rfl
  have hs : val_main_v105 (F := Ideal) x0 x1 x2 x3 x6 x7 x8 x11 x12 (ix4 i a r s)
      = (((∑ k, weight (query D.params.W (row D x0 x1 x2 x3 i r)) (key D.params.W (row D x0 x1 x2 x3 i k)) a) * (Real.exp M)⁻¹ : ℝ) : EReal) := by
    have hi : ∀ k, idx_main_v103 (idx_main_v104 (idx_main_v105 (ix4 i a r s))) k = ix4 i a r k := by
      intro k
      funext a
      match a with
      | ⟨0, _⟩ => rfl
      | ⟨1, _⟩ => rfl
      | ⟨2, _⟩ => rfl
      | ⟨3, _⟩ => rfl
    rw [val_main_v105_apply, val_main_v104_apply, val_main_v103_apply]
    simp only [hi, he, val_main_cst_16_apply, ofBits_apply, Ideal.ofBits_zero_f32, zero_add, coe_sum, Finset.sum_mul]
  have hp : 0 < ∑ k, weight (query D.params.W (row D x0 x1 x2 x3 i r)) (key D.params.W (row D x0 x1 x2 x3 i k)) a :=
    Finset.sum_pos (fun k _ => weight_pos _ _ _) ⟨0, Finset.mem_univ _⟩
  have hM0 : (Real.exp M)⁻¹ ≠ 0 := inv_ne_zero (Real.exp_pos M).ne'
  rw [val_main_v106_apply, Ideal.hostDivf_def, he, hs, coe_div (mul_ne_zero hp.ne' hM0), mul_div_mul_right _ _ hM0]
  rfl

/-- What a row reads, by heads. -/
theorem read_apply (j : S64x80x4x16.Idx) : val_main_v108 (F := Ideal) x0 x1 x2 x3 x6 x7 x8 x11 x12 j
    = ((attend D.params.W (fun f => ∑ k, f (row D x0 x1 x2 x3 (j 0) k)) (row D x0 x1 x2 x3 (j 0) (j 1)) (feature (j 2) (j 3)) : ℝ)
        : EReal) := by
  obtain ⟨i, r, a, e, rfl⟩ : ∃ i r a e, j = ix4 i r a e := ⟨_, _, _, _, eq_ix4 j⟩
  simp only [val_main_v108_apply, val_main_v107_apply, share_apply h, headValue_apply h, ← EReal.coe_mul, coe_sum]
  refine congrArg _ ?_
  show ∑ k, weight (query D.params.W (row D x0 x1 x2 x3 i r)) (key D.params.W (row D x0 x1 x2 x3 i k)) a
      / (∑ k, weight (query D.params.W (row D x0 x1 x2 x3 i r)) (key D.params.W (row D x0 x1 x2 x3 i k)) a)
      * value D.params.W (row D x0 x1 x2 x3 i k) (feature a e)
    = attend D.params.W (fun f => ∑ k, f (row D x0 x1 x2 x3 i k)) (row D x0 x1 x2 x3 i r) (feature a e)
  unfold attend
  rw [head_feature, Finset.sum_div]
  exact Finset.sum_congr rfl fun k _ => div_mul_eq_mul_div _ _ _

/-- What a row reads. -/
theorem attend_apply (j : S64x80x64.Idx) : val_main_v109 (F := Ideal) x0 x1 x2 x3 x6 x7 x8 x11 x12 j
    = ((attend D.params.W (fun f => ∑ k, f (row D x0 x1 x2 x3 (j 0) k)) (row D x0 x1 x2 x3 (j 0) (j 1)) (j 2) : ℝ) : EReal) := by
  obtain ⟨i, r, d, rfl⟩ : ∃ i r d, j = ix3 i r d := ⟨_, _, _, eq_ix3 j⟩
  have he : idx_main_v109 (ix3 i r d) = ix4 i r (head d) ⟨d.val % 16, by omega⟩ := by
    funext a
    apply Fin.ext
    match a with
    | ⟨0, _⟩ => show ((i.val * 80 + r.val) * 64 + d.val) / 5120 = i.val; omega
    | ⟨1, _⟩ => show ((i.val * 80 + r.val) * 64 + d.val) / 64 % 80 = r.val; omega
    | ⟨2, _⟩ => show ((i.val * 80 + r.val) * 64 + d.val) / 16 % 4 = d.val / 16; omega
    | ⟨3, _⟩ => show ((i.val * 80 + r.val) * 64 + d.val) % 16 = d.val % 16; omega
  rw [val_main_v109_apply, he, read_apply h]
  show ((attend D.params.W (fun f => ∑ k, f (row D x0 x1 x2 x3 i k)) (row D x0 x1 x2 x3 i r) (feature (head d) ⟨d.val % 16, _⟩) : ℝ) : EReal)
    = ((attend D.params.W (fun f => ∑ k, f (row D x0 x1 x2 x3 i k)) (row D x0 x1 x2 x3 i r) d : ℝ) : EReal)
  rw [feature_head]

/-- The weights of the output projection, read at an index. -/
theorem g9 (j : S64x64.Idx) : x9 j = ((D.x9 (j 0) (j 1) : ℝ) : EReal) := (congrArg x9 (eq_ix2 j)).trans (h.h9 _ _)
/-- The biases of the output projection, read at an index. -/
theorem g10 (j : S64.Idx) : x10 j = ((D.x10 (j 0) : ℝ) : EReal) := (congrArg x10 (eq_ix1 j)).trans (h.h10 _)

/-- The rows after attention. -/
theorem enhance_apply (j : S64x80x64.Idx) : val_main_v115 (F := Ideal) x0 x1 x2 x3 x6 x7 x8 x9 x10 x11 x12 j
    = ((enhance D.params.W (fun f => ∑ k, f (row D x0 x1 x2 x3 (j 0) k)) (row D x0 x1 x2 x3 (j 0) (j 1)) (j 2) : ℝ) : EReal) := by
  simp only [val_main_v115_apply, val_main_v114_apply, val_main_v113_apply, val_main_v112_apply, val_main_v111_apply, val_main_v110_apply,
    row_apply h, attend_apply h, g9 h, g10 h, Ideal.addf_def, ← EReal.coe_mul, coe_sum, ← EReal.coe_add]
  rfl

/-- The rows of the chosen tokens after attention. -/
theorem chosen_apply (i r d : Fin 64) : val_main_v116 (F := Ideal) x0 x1 x2 x3 x6 x7 x8 x9 x10 x11 x12 (ix3 i r d)
    = ((enhance D.params.W (fun f => ∑ k, f (row D x0 x1 x2 x3 i k)) (D.params.acts (D.x0 i) (chosen x0 x1 x2 x3 i r)) d : ℝ) : EReal) := by
  have he : idx_main_v116 (ix3 i r d) = ix3 i (⟨16 + r.val, by omega⟩ : Fin 80) d := by
    funext a
    match a with
    | ⟨0, _⟩ => rfl
    | ⟨1, _⟩ => rfl
    | ⟨2, _⟩ => rfl
  have hr : row D x0 x1 x2 x3 i ⟨16 + r.val, by omega⟩ = D.params.acts (D.x0 i) (chosen x0 x1 x2 x3 i r) := by
    unfold row rows
    rw [dif_neg (by show ¬ 16 + r.val < 16; omega)]
    exact congrArg (fun u => D.params.acts (D.x0 i) (chosen x0 x1 x2 x3 i u)) (Fin.ext (by show 16 + r.val - 16 = r.val; omega))
  rw [val_main_v116_apply, he, enhance_apply h]
  show ((enhance D.params.W (fun f => ∑ k, f (row D x0 x1 x2 x3 i k)) (row D x0 x1 x2 x3 i ⟨16 + r.val, _⟩) d : ℝ) : EReal) = _
  rw [hr]

end Cert.ReferenceIdeal.Rows
-- ==== Proof.ReferenceArray.lean ====
/- The array that the reference computes: the rows of the chosen tokens put back in their places, projected up, and added to the image
   features. -/
module

public import proofs.«01_k».proof.Proof.ReferenceAttention

@[expose] public section

noncomputable section

namespace Cert.ReferenceIdeal.Rows

open Cert.ReferenceIdeal Cert.ReferenceIdeal.Gen Cert.ReferenceIdeal.Read Idealize.ShloMosaic Cert.Model

variable {D : Data} {x0 : (⟨S64x576x768, .f32⟩ : BufTy).Contents (Elt Ideal)} {x1 : (⟨S64x77x768, .f32⟩ : BufTy).Contents (Elt Ideal)}
  {x2 : (⟨S64x768, .f32⟩ : BufTy).Contents (Elt Ideal)} {x3 : (⟨S64, .f32⟩ : BufTy).Contents (Elt Ideal)}
  {x4 : (⟨S768x64, .f32⟩ : BufTy).Contents (Elt Ideal)} {x5 : (⟨S768, .f32⟩ : BufTy).Contents (Elt Ideal)}
  {x6 : (⟨S1x16x64, .f32⟩ : BufTy).Contents (Elt Ideal)} {x7 : (⟨S192x64, .f32⟩ : BufTy).Contents (Elt Ideal)}
  {x8 : (⟨S192, .f32⟩ : BufTy).Contents (Elt Ideal)} {x9 : (⟨S64x64, .f32⟩ : BufTy).Contents (Elt Ideal)}
  {x10 x11 x12 : (⟨S64, .f32⟩ : BufTy).Contents (Elt Ideal)} {x13 : (⟨S_, .f32⟩ : BufTy).Contents (Elt Ideal)}
  (h : D.Holds x0 x1 x2 x3 x4 x5 x6 x7 x8 x9 x10 x11 x12 x13)

include h

/-- The weights of the up projection, read at an index. -/
theorem g4 (j : S768x64.Idx) : x4 j = ((D.x4 (j 0) (j 1) : ℝ) : EReal) := (congrArg x4 (eq_ix2 j)).trans (h.h4 _ _)
/-- The biases of the up projection, read at an index. -/
theorem g5 (j : S768.Idx) : x5 j = ((D.x5 (j 0) : ℝ) : EReal) := (congrArg x5 (eq_ix1 j)).trans (h.h5 _)
/-- The scale of the residual, read at an index. -/
theorem g13 (j : S_.Idx) : x13 j = ((D.x13 : ℝ) : EReal) := (congrArg x13 (funext fun a => a.elim0)).trans h.h13

/-- A sum over the rows of an image is the sum over its context. -/
theorem sum_row (hu : D.Untied) (i : Fin 64) (f : (Fin 64 → ℝ) → ℝ) :
    ∑ k, f (row D x0 x1 x2 x3 i k) = context D.x6 (D.params.acts (D.x0 i)) (D.params.scores (D.x0 i) (D.text i)) f := by
  unfold row
  rw [sum_rows, context_eq (hu i) (chosen_injective x0 x1 x2 x3 i) (rank_chosen (score_apply h) i)]

/-- The rows of the selected tokens in their places, and zero at the others. -/
theorem placed_apply (hu : D.Untied) (i : Fin 64) (n : Fin 576) (d : Fin 64) :
    val_main_v132 (F := Ideal) x0 x1 x2 x3 x6 x7 x8 x9 x10 x11 x12 (ix3 i n d)
      = ((if rank (D.params.scores (D.x0 i) (D.text i)) n < 64
          then enhance D.params.W (context D.params.mq (D.params.acts (D.x0 i)) (D.params.scores (D.x0 i) (D.text i)))
            (D.params.acts (D.x0 i) n) d else 0 : ℝ) : EReal) := by
  have h0 := pair_image x0 x1 x2 x3
  have h1 := pair_token x0 x1 x2 x3
  unfold val_main_v132
  rw [pairs_eq]
  by_cases hn : rank (D.params.scores (D.x0 i) (D.text i)) n < 64
  · have hm : n ∈ Finset.univ.image (chosen x0 x1 x2 x3 i) := by
      rw [image_eq_selected (hu i) (chosen_injective x0 x1 x2 x3 i) (rank_chosen (score_apply h) i)]
      simpa using hn
    obtain ⟨r, -, rfl⟩ := Finset.mem_image.1 hm
    refine (scatter_hit (chosen_injective x0 x1 x2 x3) h0 h1 i r d).trans ?_
    rw [chosen_apply h, if_pos hn]
    exact congrArg (fun T => ((enhance D.params.W T (D.params.acts (D.x0 i) (chosen x0 x1 x2 x3 i r)) d : ℝ) : EReal))
      (funext (sum_row h hu i))
  · refine (scatter_miss h0 h1 i n d ?_).trans ?_
    · rintro r rfl
      exact hn (rank_chosen (score_apply h) i r)
    · rw [if_neg hn, val_main_v117_apply, val_main_cst_17_apply, ofBits_apply, Ideal.ofBits_zero_f32]
      rfl

/-- The placed rows after the up projection. -/
theorem up_apply (hu : D.Untied) (i : Fin 64) (n : Fin 576) (e : Fin 768) :
    val_main_v134 (F := Ideal) x0 x1 x2 x3 x4 x6 x7 x8 x9 x10 x11 x12 (ix3 i n e)
      = ((if rank (D.params.scores (D.x0 i) (D.text i)) n < 64
          then ∑ d, enhance D.params.W (context D.params.mq (D.params.acts (D.x0 i)) (D.params.scores (D.x0 i) (D.text i)))
            (D.params.acts (D.x0 i) n) d * D.x4 e d else 0 : ℝ) : EReal) := by
  have hl : ∀ k, lidx_main_v134 (ix3 i n e) k = ix3 i n k := by
    intro k
    funext a
    match a with
    | ⟨0, _⟩ => rfl
    | ⟨1, _⟩ => rfl
    | ⟨2, _⟩ => rfl
  have hr : ∀ k, idx_main_v133 (ridx_main_v134 (ix3 i n e) k) = ix2 e k := by
    intro k
    funext a
    match a with
    | ⟨0, _⟩ => rfl
    | ⟨1, _⟩ => rfl
  rw [val_main_v134_apply]
  simp only [val_main_v133_apply, hl, hr, placed_apply h hu, h.h4, ← EReal.coe_mul, coe_sum]
  refine congrArg _ ?_
  split_ifs with hn
  · rfl
  · exact Finset.sum_eq_zero fun d _ => zero_mul _

/-- An element of the reference's result. -/
theorem result_apply (hu : D.Untied) (i : Fin 64) (n : Fin 576) (e : Fin 768) :
    val_main_v140 (F := Ideal) x0 x1 x2 x3 x4 x5 x6 x7 x8 x9 x10 x11 x12 x13 (ix3 i n e) = ((D.out i n e : ℝ) : EReal) := by
  have hb : idx_main_v135 (idx_main_v136 (ix3 i n e)) = ix1 e := by
    funext a
    match a with
    | ⟨0, _⟩ => rfl
  rw [val_main_v140_apply, val_main_v139_apply, val_main_v138_apply, val_main_v137_apply, val_main_v136_apply, val_main_v135_apply, hb,
    up_apply h hu, h.h0, h.h5, g13 h, Ideal.addf_def, Ideal.addf_def, Ideal.mulf_def, ← EReal.coe_add, ← EReal.coe_mul, ← EReal.coe_add]
  rfl

end Cert.ReferenceIdeal.Rows
-- ==== Proof.Condition.lean ====
/- What the precondition says: every argument holds real numbers, and no two selected tokens of an image have the same score. -/
module

public import proofs.«01_k».proof.Proof.ReferenceScores
public import proofs.«01_k».proof.Proof.Gen.Pre_finite_and_untied

@[expose] public section

noncomputable section

namespace Cert.Pre_finite_and_untied.Reading

open Cert.Pre_finite_and_untied Cert.Pre_finite_and_untied.Gen Idealize.ShloMosaic Cert.Model

/-! ## Real numbers -/

/-- A number whose absolute value is below the greatest is real. -/
theorem real_of_flag (x : EReal) (hx : Ideal.cmp .olt (max x (-x)) ⊤ = 1#1) : x = ((x.toReal : ℝ) : EReal) := by
  have hlt : max x (-x) < ⊤ := by
    by_contra hc
    simp [Ideal.cmp, hc] at hx
  refine (EReal.coe_toReal (fun ht => ?_) (fun hb => ?_)).symm
  · rw [ht] at hlt
    simp at hlt
  · rw [hb] at hlt
    simp at hlt

/-- An array whose absolute values are flagged below the greatest holds real numbers. -/
theorem real_of_flags {s : Shape} (x b : FVec Ideal s .f32) (hb : ∀ i, b i = (⊤ : EReal)) (hx : cmpf .olt (Host.absf x) b = fun _ => 1#1)
    (i : s.Idx) : x i = ((EReal.toReal (x i) : ℝ) : EReal) := by
  refine real_of_flag (x i) ?_
  have h1 : Ideal.cmp .olt (max (x i : EReal) (-(x i : EReal))) (b i) = 1#1 := congrFun hx i
  rwa [hb] at h1

/-- The greatest number, broadcast. -/
theorem top_apply {t : Shape} (h : S_.BroadcastsInDim t (![] : Fin 0 → Fin t.rank)) (i : t.Idx) :
    broadcastInDim t ![] h (constant (F := Ideal) S_ .f32 0x7F800000#32) i = (⊤ : EReal) := by
  refine (broadcastInDim_apply _ h _ i (fun a => a.elim0) (fun a => a.elim0)).trans ?_
  exact bits_top

/-! ## Ties -/

/-- The scores of an image's tokens, each held against each. -/
def against (p : CmpFPredicate) (s : FVec Ideal S64x576 .f32) : IVec S64x576x576 1 :=
  cmpf p
    (broadcastInDim S64x576x576 ![0, 1, 2] bcast_S64x1x576_S64x576x576_0_1_2
      (broadcastInDim S64x1x576 ![0, 2] bcast_S64x576_S64x1x576_0_2 s))
    (broadcastInDim S64x576x576 ![0, 1, 2] bcast_S64x576x1_S64x576x576_0_1_2
      (broadcastInDim S64x576x1 ![0, 1] bcast_S64x576_S64x576x1_0_1 s))

/-- The number of flags of each token. -/
def count (x : IVec S64x576x576 1) : FVec Ideal S64x576 .f32 :=
  Host.reduceAdd (uitofp (F := Ideal) .f32 x) (constant S_ .f32 0x00000000#32) reducesTo_S64x576x576_S64x576_d2 h_S_

/-- A literal for every token. -/
def literal (b : BitVec 32) : FVec Ideal S64x576 .f32 := broadcastInDim S64x576 ![] bcast_S_S64x576 (constant (F := Ideal) S_ .f32 b)

/-- The flag of a token that 64 are better than or that shares its score with no other. -/
def ties (s : FVec Ideal S64x576 .f32) : IVec S64x576 1 :=
  ori (cmpf .oge (count (against .ogt s)) (literal 0x42800000#32)) (cmpf .oeq (count (against .oeq s)) (literal 0x3F800000#32))

/-- The other tokens' scores. -/
theorem others_apply (s : FVec Ideal S64x576 .f32) (i : Fin 64) (n j : Fin 576) :
    broadcastInDim S64x576x576 ![0, 1, 2] bcast_S64x1x576_S64x576x576_0_1_2
      (broadcastInDim S64x1x576 ![0, 2] bcast_S64x576_S64x1x576_0_2 s) (ix3 i n j) = s (ix2 i j) := by
  refine (broadcastInDim_apply _ bcast_S64x1x576_S64x576x576_0_1_2 _ (ix3 i n j) (ix3 i (0 : Fin 1) j) fun a => ?_).trans ?_
  · match a with
    | ⟨0, _⟩ => rfl
    | ⟨1, _⟩ => rfl
    | ⟨2, _⟩ => rfl
  · refine broadcastInDim_apply _ bcast_S64x576_S64x1x576_0_2 s (ix3 i (0 : Fin 1) j) (ix2 i j) fun a => ?_
    match a with
    | ⟨0, _⟩ => rfl
    | ⟨1, _⟩ => rfl

/-- The token's own score. -/
theorem own_apply (s : FVec Ideal S64x576 .f32) (i : Fin 64) (n j : Fin 576) :
    broadcastInDim S64x576x576 ![0, 1, 2] bcast_S64x576x1_S64x576x576_0_1_2
      (broadcastInDim S64x576x1 ![0, 1] bcast_S64x576_S64x576x1_0_1 s) (ix3 i n j) = s (ix2 i n) := by
  refine (broadcastInDim_apply _ bcast_S64x576x1_S64x576x576_0_1_2 _ (ix3 i n j) (ix3 i n (0 : Fin 1)) fun a => ?_).trans ?_
  · match a with
    | ⟨0, _⟩ => rfl
    | ⟨1, _⟩ => rfl
    | ⟨2, _⟩ => rfl
  · refine broadcastInDim_apply _ bcast_S64x576_S64x576x1_0_1 s (ix3 i n (0 : Fin 1)) (ix2 i n) fun a => ?_
    match a with
    | ⟨0, _⟩ => rfl
    | ⟨1, _⟩ => rfl

/-- A literal, broadcast over the tokens. -/
theorem literal_apply (b : BitVec 32) (j : S64x576.Idx) :
    literal b j = Ideal.ofBits .f32 b :=
  broadcastInDim_apply _ bcast_S_S64x576 _ j (fun a => a.elim0) (fun a => a.elim0)

/-- A count of flags. -/
theorem count_apply (x : IVec S64x576x576 1) (p : Fin 576 → Prop) [DecidablePred p] (i : Fin 64) (n : Fin 576)
    (hx : ∀ j, x (ix3 i n j) = if p j then 1#1 else 0#1) :
    count x (ix2 i n) = (((Finset.univ.filter p).card : ℝ) : EReal) := by
  unfold count
  simp only [Host.reduceAdd, Ideal.hostReduceAdd_def]
  rw [Ideal.hostReduceAdd_single reducesTo_S64x576x576_S64x576_d2 (by decide)]
  have h0 : constant (F := Ideal) S_ .f32 0x00000000#32 (Shape.Idx.first h_S_) = (0 : EReal) := Ideal.ofBits_zero_f32
  rw [h0, zero_add]
  refine (Finset.sum_congr rfl fun j _ => (?_ : _ = (((if p j then 1 else 0 : ℝ) : ℝ) : EReal))).trans ((coe_sum _ _).trans ?_)
  · refine (congrArg (uitofp (F := Ideal) .f32 x)
      (funext fun a => Fin.ext (by match a with | ⟨0, _⟩ => rfl | ⟨1, _⟩ => rfl | ⟨2, _⟩ => rfl) : _ = ix3 i n j)).trans ?_
    show (((x (ix3 i n j)).toNat : ℝ) : EReal) = _
    rw [hx]
    split_ifs <;> simp
  · exact congrArg _ (sum_flag p)

/-- Where every token is flagged, no two selected tokens have the same score. -/
theorem untied_of_ties {s : FVec Ideal S64x576 .f32} {sc : Fin 64 → Fin 576 → ℝ} (hs : ∀ i n, s (ix2 i n) = ((sc i n : ℝ) : EReal))
    (ht : ties s = fun _ => 1#1) (i : Fin 64) : Untied (sc i) := by
  intro n
  have h1 : ties s (ix2 i n) = 1#1 := congrFun ht _
  have hg : ∀ j, against .ogt s (ix3 i n j) = if sc i n < sc i j then 1#1 else 0#1 := by
    intro j
    unfold against
    rw [ValueIdx.cmpf_apply, others_apply, own_apply, hs, hs]
    exact coe_gt _ _
  have he : ∀ j, against .oeq s (ix3 i n j) = if sc i j = sc i n then 1#1 else 0#1 := by
    intro j
    unfold against
    rw [ValueIdx.cmpf_apply, others_apply, own_apply, hs, hs]
    exact coe_oeq _ _
  have h2 : Ideal.cmp .oge (count (against .ogt s) (ix2 i n)) (literal 0x42800000#32 (ix2 i n))
      ||| Ideal.cmp .oeq (count (against .oeq s) (ix2 i n)) (literal 0x3F800000#32 (ix2 i n)) = 1#1 := h1
  rw [count_apply _ _ i n hg, count_apply _ _ i n he, literal_apply, literal_apply, bits_sixtyFour, bits_one] at h2
  by_contra hc
  rw [not_or] at hc
  have h3 : ¬ ((64 : ℝ) : EReal) ≤ (((rank (sc i) n : ℕ) : ℝ) : EReal) := by
    rw [EReal.coe_le_coe_iff]
    exact_mod_cast hc.1
  have h4 : ¬ ((((Finset.univ.filter fun j => sc i j = sc i n).card : ℕ) : ℝ) : EReal) = ((1 : ℝ) : EReal) := by
    rw [EReal.coe_eq_coe_iff]
    exact_mod_cast hc.2
  have h5 : Ideal.cmp .oge (((rank (sc i) n : ℕ) : ℝ) : EReal) ((64 : ℝ) : EReal) = 0#1 := by
    simp only [Ideal.cmp, decide_eq_false h3]
    rfl
  have h6 : Ideal.cmp .oeq ((((Finset.univ.filter fun j => sc i j = sc i n).card : ℕ) : ℝ) : EReal) ((1 : ℝ) : EReal) = 0#1 := by
    simp only [Ideal.cmp, decide_eq_false h4]
    rfl
  have h7 := (congrArg₂ (· ||| ·) h5 h6).symm.trans h2
  exact absurd h7 (by decide)

/-! ## The precondition -/

/-- The last flags of the precondition are the ties of the scores that the reference computes. -/
theorem fn_ties
    (a0 : FVec Ideal S64x576x768 .f32) (a1 : FVec Ideal S64x77x768 .f32) (a2 : FVec Ideal S64x768 .f32) (a3 : FVec Ideal S64 .f32)
    (a4 : FVec Ideal S768x64 .f32) (a5 : FVec Ideal S768 .f32) (a6 : FVec Ideal S1x16x64 .f32) (a7 : FVec Ideal S192x64 .f32)
    (a8 : FVec Ideal S192 .f32) (a9 : FVec Ideal S64x64 .f32) (a10 : FVec Ideal S64 .f32) (a11 : FVec Ideal S64 .f32)
    (a12 : FVec Ideal S64 .f32) (a13 : FVec Ideal S_ .f32) :
    (fn (F := Ideal) a0 a1 a2 a3 a4 a5 a6 a7 a8 a9 a10 a11 a12 a13).2.2.2.2.2.2.2.2.2.2.2.2.2.2
      = ties (Cert.ReferenceIdeal.Read.val_main_v31 (F := Ideal) a0 a1 a2 a3) := rfl

/-- Where all the flags are set the arguments hold real data, of which no two selected tokens of an image have the same score. -/
theorem data_of_flags
    {a0 : FVec Ideal S64x576x768 .f32} {a1 : FVec Ideal S64x77x768 .f32} {a2 : FVec Ideal S64x768 .f32} {a3 : FVec Ideal S64 .f32}
    {a4 : FVec Ideal S768x64 .f32} {a5 : FVec Ideal S768 .f32} {a6 : FVec Ideal S1x16x64 .f32} {a7 : FVec Ideal S192x64 .f32}
    {a8 : FVec Ideal S192 .f32} {a9 : FVec Ideal S64x64 .f32} {a10 : FVec Ideal S64 .f32} {a11 : FVec Ideal S64 .f32}
    {a12 : FVec Ideal S64 .f32} {a13 : FVec Ideal S_ .f32}
    (h0 : (fn (F := Ideal) a0 a1 a2 a3 a4 a5 a6 a7 a8 a9 a10 a11 a12 a13).1 = fun _ => 1#1)
    (h1 : (fn (F := Ideal) a0 a1 a2 a3 a4 a5 a6 a7 a8 a9 a10 a11 a12 a13).2.1 = fun _ => 1#1)
    (h2 : (fn (F := Ideal) a0 a1 a2 a3 a4 a5 a6 a7 a8 a9 a10 a11 a12 a13).2.2.1 = fun _ => 1#1)
    (h3 : (fn (F := Ideal) a0 a1 a2 a3 a4 a5 a6 a7 a8 a9 a10 a11 a12 a13).2.2.2.1 = fun _ => 1#1)
    (h4 : (fn (F := Ideal) a0 a1 a2 a3 a4 a5 a6 a7 a8 a9 a10 a11 a12 a13).2.2.2.2.1 = fun _ => 1#1)
    (h5 : (fn (F := Ideal) a0 a1 a2 a3 a4 a5 a6 a7 a8 a9 a10 a11 a12 a13).2.2.2.2.2.1 = fun _ => 1#1)
    (h6 : (fn (F := Ideal) a0 a1 a2 a3 a4 a5 a6 a7 a8 a9 a10 a11 a12 a13).2.2.2.2.2.2.1 = fun _ => 1#1)
    (h7 : (fn (F := Ideal) a0 a1 a2 a3 a4 a5 a6 a7 a8 a9 a10 a11 a12 a13).2.2.2.2.2.2.2.1 = fun _ => 1#1)
    (h8 : (fn (F := Ideal) a0 a1 a2 a3 a4 a5 a6 a7 a8 a9 a10 a11 a12 a13).2.2.2.2.2.2.2.2.1 = fun _ => 1#1)
    (h9 : (fn (F := Ideal) a0 a1 a2 a3 a4 a5 a6 a7 a8 a9 a10 a11 a12 a13).2.2.2.2.2.2.2.2.2.1 = fun _ => 1#1)
    (h10 : (fn (F := Ideal) a0 a1 a2 a3 a4 a5 a6 a7 a8 a9 a10 a11 a12 a13).2.2.2.2.2.2.2.2.2.2.1 = fun _ => 1#1)
    (h11 : (fn (F := Ideal) a0 a1 a2 a3 a4 a5 a6 a7 a8 a9 a10 a11 a12 a13).2.2.2.2.2.2.2.2.2.2.2.1 = fun _ => 1#1)
    (h12 : (fn (F := Ideal) a0 a1 a2 a3 a4 a5 a6 a7 a8 a9 a10 a11 a12 a13).2.2.2.2.2.2.2.2.2.2.2.2.1 = fun _ => 1#1)
    (h13 : (fn (F := Ideal) a0 a1 a2 a3 a4 a5 a6 a7 a8 a9 a10 a11 a12 a13).2.2.2.2.2.2.2.2.2.2.2.2.2.1 = fun _ => 1#1)
    (h14 : (fn (F := Ideal) a0 a1 a2 a3 a4 a5 a6 a7 a8 a9 a10 a11 a12 a13).2.2.2.2.2.2.2.2.2.2.2.2.2.2 = fun _ => 1#1) :
    ∃ D : Data, D.Holds a0 a1 a2 a3 a4 a5 a6 a7 a8 a9 a10 a11 a12 a13 ∧ D.Untied := by
  have r0 := real_of_flags a0 _ (top_apply bcast_S_S64x576x768) h0
  have r1 := real_of_flags a1 _ (top_apply bcast_S_S64x77x768) h1
  have r2 := real_of_flags a2 _ (top_apply bcast_S_S64x768) h2
  have r3 := real_of_flags a3 _ (top_apply bcast_S_S64) h3
  have r4 := real_of_flags a4 _ (top_apply bcast_S_S768x64) h4
  have r5 := real_of_flags a5 _ (top_apply bcast_S_S768) h5
  have r6 := real_of_flags a6 _ (top_apply bcast_S_S1x16x64) h6
  have r7 := real_of_flags a7 _ (top_apply bcast_S_S192x64) h7
  have r8 := real_of_flags a8 _ (top_apply bcast_S_S192) h8
  have r9 := real_of_flags a9 _ (top_apply bcast_S_S64x64) h9
  have r10 := real_of_flags a10 _ (top_apply bcast_S_S64) h10
  have r11 := real_of_flags a11 _ (top_apply bcast_S_S64) h11
  have r12 := real_of_flags a12 _ (top_apply bcast_S_S64) h12
  have r13 := real_of_flags a13 (constant S_ .f32 0x7F800000#32) (fun _ => bits_top) h13
  have hD : Data.Holds ⟨fun i n c => (a0 (ix3 i n c)).toReal, fun i t c => (a1 (ix3 i t c)).toReal, fun d c => (a2 (ix2 d c)).toReal,
      fun d => (a3 (ix1 d)).toReal, fun e d => (a4 (ix2 e d)).toReal, fun e => (a5 (ix1 e)).toReal, fun q d => (a6 (ix3 0 q d)).toReal,
      fun r d => (a7 (ix2 r d)).toReal, fun r => (a8 (ix1 r)).toReal, fun d k => (a9 (ix2 d k)).toReal, fun d => (a10 (ix1 d)).toReal,
      fun d => (a11 (ix1 d)).toReal, fun d => (a12 (ix1 d)).toReal, (a13 ix0).toReal⟩ a0 a1 a2 a3 a4 a5 a6 a7 a8 a9 a10 a11 a12 a13 :=
    ⟨fun i n c => r0 _, fun i t c => r1 _, fun d c => r2 _, fun d => r3 _, fun e d => r4 _, fun e => r5 _, fun q d => r6 _,
      fun r d => r7 _, fun r => r8 _, fun d k => r9 _, fun d => r10 _, fun d => r11 _, fun d => r12 _, r13 _⟩
  refine ⟨_, hD, fun i => ?_⟩
  rw [fn_ties] at h14
  exact untied_of_ties (Cert.ReferenceIdeal.Rows.score_apply hD) h14 i

end Cert.Pre_finite_and_untied.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_untied
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.ReferenceArray
public import proofs.«01_k».proof.Proof.Condition
public import Idealize.ShloMosaic.Adequacy
public import Idealize.ShloMosaic.Init

@[expose] public section

noncomputable section

namespace Cert.Proof

open Idealize.ShloMosaic Idealize.SL.Sem Cert.Kernel

/-- The kernel runs, leaves its arguments and ends with every counter at zero. -/
theorem frame_kernel : Cert.quiescent_Kernel (hKernel := Cert.Kernel.Gen.facts) := fun m g _ =>
  Cert.Kernel.Gen.frame m g

/-- So does the kernel over the extended reals. -/
theorem frame_kernelIdeal : Cert.quiescent_KernelIdeal (hKernelIdeal := Cert.KernelIdeal.Gen.facts) := fun m g _ =>
  Cert.KernelIdeal.Gen.frame m g

/-- The reference runs and leaves its arguments; it declares no counter. -/
theorem frame_referenceIdeal : Cert.quiescent_ReferenceIdeal (hReferenceIdeal := Cert.ReferenceIdeal.Gen.facts) := fun m g _ =>
  θ_run_mono (Cert.ReferenceIdeal.Value.run m g) fun r h => ⟨fun c => (h c).2, funext fun x => nomatch x⟩

/-- The named constant is written where its literal stood. -/
theorem preserves : Cert.preserves_Kernel_KernelIdeal :=
  IdealRules.named_const.statement Cert.KernelIdeal.κ "mask" .f32 0xF149F2CA#32 ⊥ rfl

/-- Where the precondition holds, the arguments are real data of which no two selected tokens of an image have the same score. -/
theorem data (m : (ℓ : Loc Cert.KernelIdeal.nD Cert.KernelIdeal.τ Cert.KernelIdeal.sig) → Buf (Elt Ideal) ℓ)
    (hp : Cert.Pre_KernelIdeal_finite_and_untied (hPre_finite_and_untied := Cert.Pre_finite_and_untied.Gen.facts) m)
    (c : Dev Cert.KernelIdeal.nD) : ∃ D : Cert.Model.Data, Cert.KernelIdeal.Block.Launched m c D ∧ D.Untied := by
  obtain ⟨h0, h1, h2, h3, h4, h5, h6, h7, h8, h9, h10, h11, h12, h13, h14⟩ := hp c
  exact Cert.Pre_finite_and_untied.Reading.data_of_flags h0 h1 h2 h3 h4 h5 h6 h7 h8 h9 h10 h11 h12 h13 h14

/-- The kernel and the reference compute the same array: each element is the same real number. -/
theorem equal : Cert.algebraic_KernelIdeal_ReferenceIdeal_pre_finite_and_untied (hKernelIdeal := Cert.KernelIdeal.Gen.facts)
    (hReferenceIdeal := Cert.ReferenceIdeal.Gen.facts) (hPre_finite_and_untied := Cert.Pre_finite_and_untied.Gen.facts) := by
  intro m g m' g' hp ha
  refine ⟨fun c => (Cert.KernelIdeal.Gen.dats m 0 c).arrAt 18 Cert.KernelIdeal.cfg0.N, Cert.KernelIdeal.Value.run_blocks m g,
    θ_run_mono (Cert.ReferenceIdeal.Value.run m' g') fun r hr c => ⟨?_, (hr c).2⟩⟩
  obtain ⟨D, hD, hu⟩ := data m hp c
  obtain ⟨e0, e1, e2, e3, e4, e5, e6, e7, e8, e9, e10, e11, e12, e13⟩ := ha c
  have hR := hD
  unfold Cert.KernelIdeal.Block.Launched at hR
  rw [← e0, ← e1, ← e2, ← e3, ← e4, ← e5, ← e6, ← e7, ← e8, ← e9, ← e10, ← e11, ← e12, ← e13] at hR
  refine ((hr c).1.trans (Cert.ReferenceIdeal.Read.val_main_v140_eq (StableHlo.launchContents m' c))).trans ?_
  funext j
  obtain ⟨i, n, e, rfl⟩ : ∃ i n e, j = ix3 i n e := ⟨_, _, _, eq_ix3 j⟩
  exact (Cert.ReferenceIdeal.Rows.result_apply hR hu i n e).trans (Cert.KernelIdeal.Block.array_apply hD hu i n e).symm

/-- All the claims. -/
theorem claim : Cert.Claim := ⟨Cert.Kernel.Gen.facts, Cert.KernelIdeal.Gen.facts, Cert.ReferenceIdeal.Gen.facts, Cert.Pre_finite_and_untied.Gen.facts,
  frame_kernel, frame_kernelIdeal, fun m g _ => frame_kernelIdeal m g trivial, frame_referenceIdeal,
  fun m g _ => frame_referenceIdeal m g trivial, preserves, equal⟩

end Cert.Proof

end
